-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scales_positive [hPre_scales_positive : Cert.Pre_scales_positive.Facts] (m : (ℓ : Loc Cert.AttnIdeal.nD Cert.AttnIdeal.τ Cert.AttnIdeal.sig) → Buf (Elt Ideal) ℓ) : Prop :=
  ∀ c : Dev Cert.AttnIdeal.nD,
    (Cert.Pre_scales_positive.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_RefIdeal (m : (ℓ : Loc Cert.RefIdeal.nD Cert.RefIdeal.τ Cert.RefIdeal.sig) → Buf (Elt Ideal) ℓ) : Prop :=
  True

def Pre_RefIdeal_scales_positive [hPre_scales_positive : Cert.Pre_scales_positive.Facts] (m : (ℓ : Loc Cert.RefIdeal.nD Cert.RefIdeal.τ Cert.RefIdeal.sig) → Buf (Elt Ideal) ℓ) : Prop :=
  ∀ c : Dev Cert.RefIdeal.nD,
    (Cert.Pre_scales_positive.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_scales_positive [hAttnIdeal : Cert.AttnIdeal.Facts] [hPre_scales_positive : Cert.Pre_scales_positive.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scales_positive m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_RefIdeal_pre_scales_positive [hRefIdeal : Cert.RefIdeal.Facts] [hPre_scales_positive : Cert.Pre_scales_positive.Facts] : Prop :=
  ∀ (m : (ℓ : Loc Cert.RefIdeal.nD Cert.RefIdeal.τ Cert.RefIdeal.sig) → Buf (Elt Ideal) ℓ) (g : Dev Cert.RefIdeal.nD → PrngReg), Pre_RefIdeal_scales_positive m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_RefIdeal_pre_scales_positive [hAttnIdeal : Cert.AttnIdeal.Facts] [hRefIdeal : Cert.RefIdeal.Facts] [hPre_scales_positive : Cert.Pre_scales_positive.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefIdeal.nD Cert.RefIdeal.τ Cert.RefIdeal.sig) → Buf (Elt Ideal) ℓ) (g' : Dev Cert.RefIdeal.nD → PrngReg), Pre_AttnIdeal_scales_positive m →
    (∀ c : Dev Cert.AttnIdeal.nD,
      m' ((c.tc : Thread Cert.RefIdeal.nD Cert.RefIdeal.τ).loc Cert.RefIdeal.main_arg0) = m ((c.tc : Thread Cert.AttnIdeal.nD Cert.AttnIdeal.τ).loc Cert.AttnIdeal.main_arg0)
      ∧ m' ((c.tc : Thread Cert.RefIdeal.nD Cert.RefIdeal.τ).loc Cert.RefIdeal.main_arg1) = m ((c.tc : Thread Cert.AttnIdeal.nD Cert.AttnIdeal.τ).loc Cert.AttnIdeal.main_arg1)
      ∧ m' ((c.tc : Thread Cert.RefIdeal.nD Cert.RefIdeal.τ).loc Cert.RefIdeal.main_arg2) = m ((c.tc : Thread Cert.AttnIdeal.nD Cert.AttnIdeal.τ).loc Cert.AttnIdeal.main_arg2)
      ∧ m' ((c.tc : Thread Cert.RefIdeal.nD Cert.RefIdeal.τ).loc Cert.RefIdeal.main_arg3) = m ((c.tc : Thread Cert.AttnIdeal.nD Cert.AttnIdeal.τ).loc Cert.AttnIdeal.main_arg3)
      ∧ m' ((c.tc : Thread Cert.RefIdeal.nD Cert.RefIdeal.τ).loc Cert.RefIdeal.main_arg4) = m ((c.tc : Thread Cert.AttnIdeal.nD Cert.AttnIdeal.τ).loc Cert.AttnIdeal.main_arg4)
      ∧ m' ((c.tc : Thread Cert.RefIdeal.nD Cert.RefIdeal.τ).loc Cert.RefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v86) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def Claim : Prop :=
  ∃ (hAttn : Cert.Attn.Facts) (hAttnIdeal : Cert.AttnIdeal.Facts) (hRefIdeal : Cert.RefIdeal.Facts) (hPre_scales_positive : Cert.Pre_scales_positive.Facts),
    quiescent_Attn (hAttn := hAttn)
    ∧ quiescent_AttnIdeal (hAttnIdeal := hAttnIdeal)
    ∧ quiescent_AttnIdeal_pre_scales_positive (hAttnIdeal := hAttnIdeal) (hPre_scales_positive := hPre_scales_positive)
    ∧ quiescent_RefIdeal (hRefIdeal := hRefIdeal)
    ∧ quiescent_RefIdeal_pre_scales_positive (hRefIdeal := hRefIdeal) (hPre_scales_positive := hPre_scales_positive)
    ∧ preserves_Attn_AttnIdeal
    ∧ algebraic_AttnIdeal_RefIdeal_pre_scales_positive (hAttnIdeal := hAttnIdeal) (hRefIdeal := hRefIdeal) (hPre_scales_positive := hPre_scales_positive)
-- ==== Pre_scales_positive.lean ====
abbrev S8x4096x8192 : Shape := ⟨3, ![8, 4096, 8192]⟩
abbrev S8x32x32 : Shape := ⟨3, ![8, 32, 32]⟩
abbrev S8x4096x2048 : Shape := ⟨3, ![8, 4096, 2048]⟩
abbrev S8x32x8 : Shape := ⟨3, ![8, 32, 8]⟩
abbrev S8x8x256x4096 : Shape := ⟨4, ![8, 8, 256, 4096]⟩
abbrev S_ : Shape := ⟨0, ![]⟩

class Facts : Prop where
  bcast_S_S8x32x32 : S_.BroadcastsInDim S8x32x32 (![] : Fin 0 → Fin S8x32x32.rank)
  reducesTo_S8x32x32_S_d0_1_2 : S8x32x32.ReducesTo [0, 1, 2] S_
  h_S_ : 0 < S_.numel
  bcast_S_S8x32x8 : S_.BroadcastsInDim S8x32x8 (![] : Fin 0 → Fin S8x32x8.rank)
  reducesTo_S8x32x8_S_d0_1_2 : S8x32x8.ReducesTo [0, 1, 2] S_

variable [Facts]

def fn {F : FTy → Type} [FloatOps F] (main_arg0 : FVec F S8x4096x8192 .fp8e4m3) (main_arg1 : FVec F S8x32x32 .f32) (main_arg2 : FVec F S8x4096x2048 .fp8e4m3) (main_arg3 : FVec F S8x32x8 .f32) (main_arg4 : FVec F S8x8x256x4096 .fp8e4m3) (main_arg5 : FVec F S8x32x8 .f32) : IVec S_ 1 :=
  let main_cst : FVec F S_ .f32 := constant S_ .f32 0x00000000#32
  let main_v0 : FVec F S8x32x32 .f32 := broadcastInDim S8x32x32 ![] bcast_S_S8x32x32 main_cst
  let main_v1 : IVec S8x32x32 1 := cmpf .ogt main_arg1 main_v0
  let main_c : IVec S_ 1 := constantI S_ 1 1#1
  let main_v2 : IVec S_ 1 := (fun x v => Host.reduce IntOp.andi x v reducesTo_S8x32x32_S_d0_1_2 h_S_) main_v1 main_c
  let main_cst_0 : FVec F S_ .f32 := constant S_ .f32 0x00000000#32
  let main_v3 : FVec F S8x32x8 .f32 := broadcastInDim S8x32x8 ![] bcast_S_S8x32x8 main_cst_0
  let main_v4 : IVec S8x32x8 1 := cmpf .ogt main_arg3 main_v3
  let main_c_1 : IVec S_ 1 := constantI S_ 1 1#1
  let main_v5 : IVec S_ 1 := (fun x v => Host.reduce IntOp.andi x v reducesTo_S8x32x8_S_d0_1_2 h_S_) main_v4 main_c_1
  let main_v6 : IVec S_ 1 := andi main_v2 main_v5
  main_v6
-- ==== Attn.lean ====
abbrev S8x4096x8192 : Shape := ⟨3, ![8, 4096, 8192]⟩
abbrev S8x32x32 : Shape := ⟨3, ![8, 32, 32]⟩
abbrev S8x4096x2048 : Shape := ⟨3, ![8, 4096, 2048]⟩
abbrev S8x32x8 : Shape := ⟨3, ![8, 32, 8]⟩
abbrev S8x8x256x4096 : Shape := ⟨4, ![8, 8, 256, 4096]⟩
abbrev S8x1024 : Shape := ⟨2, ![8, 1024]⟩
abbrev S8x256 : Shape := ⟨2, ![8, 256]⟩
abbrev S1x128x1024 : Shape := ⟨3, ![1, 128, 1024]⟩
abbrev S1x4096x256 : Shape := ⟨3, ![1, 4096, 256]⟩
abbrev S1x1x256x4096 : Shape := ⟨4, ![1, 1, 256, 4096]⟩
abbrev S4096x512 : Shape := ⟨2, ![4096, 512]⟩
abbrev S256x512 : Shape := ⟨2, ![256, 512]⟩
abbrev S1x128x256 : Shape := ⟨3, ![1, 128, 256]⟩
abbrev S128x256 : Shape := ⟨2, ![128, 256]⟩
abbrev S512x256 : Shape := ⟨2, ![512, 256]⟩
abbrev S8x512 : Shape := ⟨2, ![8, 512]⟩
abbrev S1x256x256 : Shape := ⟨3, ![1, 256, 256]⟩
abbrev S256x256 : Shape := ⟨2, ![256, 256]⟩
abbrev S128x512 : Shape := ⟨2, ![128, 512]⟩
abbrev S16x8x512 : Shape := ⟨3, ![16, 8, 512]⟩
abbrev S1x1 : Shape := ⟨2, ![1, 1]⟩
abbrev S1x512 : Shape := ⟨2, ![1, 512]⟩
abbrev S512 : Shape := ⟨1, ![512]⟩
abbrev S1x128 : Shape := ⟨2, ![1, 128]⟩
abbrev S1 : Shape := ⟨1, ![1]⟩
abbrev S1x8x512 : Shape := ⟨3, ![1, 8, 512]⟩
abbrev S1x1x256x128 : Shape := ⟨4, ![1, 1, 256, 128]⟩
abbrev S256x128 : Shape := ⟨2, ![256, 128]⟩

abbrev nBuf : Space → Nat
  | .hbm => 10
  | .vmem => 10
  | .smem => 3
  | _ => 0

abbrev bufTy : (tb : Table) → Fin (tcTables nBuf tb) → BufTy
  | .hbm, ⟨0, _⟩ => ⟨S8x4096x8192, .fp8e4m3⟩
  | .hbm, ⟨1, _⟩ => ⟨S8x32x32, .f32⟩
  | .hbm, ⟨2, _⟩ => ⟨S8x4096x2048, .fp8e4m3⟩
  | .hbm, ⟨3, _⟩ => ⟨S8x32x8, .f32⟩
  | .hbm, ⟨4, _⟩ => ⟨S8x8x256x4096, .fp8e4m3⟩
  | .hbm, ⟨5, _⟩ => ⟨S8x32x8, .f32⟩
  | .hbm, ⟨6, _⟩ => ⟨S8x1024, .f32⟩
  | .hbm, ⟨7, _⟩ => ⟨S8x256, .f32⟩
  | .hbm, ⟨8, _⟩ => ⟨S8x256, .f32⟩
  | .hbm, ⟨9, _⟩ => ⟨S8x4096x8192, .bf16⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S1x4096x256, .fp8e4m3⟩
  | .local _ .vmem, ⟨3, _⟩ => ⟨S1x4096x256, .fp8e4m3⟩
  | .local _ .vmem, ⟨4, _⟩ => ⟨S1x1x256x4096, .fp8e4m3⟩
  | .local _ .vmem, ⟨5, _⟩ => ⟨S1x1x256x4096, .fp8e4m3⟩
  | .local _ .vmem, ⟨6, _⟩ => ⟨S1x128x1024, .bf16⟩
  | .local _ .vmem, ⟨7, _⟩ => ⟨S1x128x1024, .bf16⟩
  | .local _ .vmem, ⟨8, _⟩ => ⟨S4096x512, .f32⟩
  | .local _ .vmem, ⟨9, _⟩ => ⟨S256x512, .f32⟩
  | .local _ .smem, ⟨0, _⟩ => ⟨S8x1024, .f32⟩
  | .local _ .smem, ⟨1, _⟩ => ⟨S8x256, .f32⟩
  | .local _ .smem, ⟨2, _⟩ => ⟨S8x256, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 8, 32], ![false, false, false]⟩

@[reducible] def k0_t1_loop (i : grid0.Coords) : Scf.Loop 32 :=
  let c0_i32_14 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_13 : BitVec 32 := 1#32
  let v27 : BitVec 32 := Scalar.subi v17 c1_i32_13
  let v29 : BitVec 32 := Scalar.subi v27 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_16 : BitVec 32 := 1#32
  ⟨c0_i32_14, v33, c1_i32_16⟩
def k0_off1 (i : grid0.Coords) (k0_t1 : Fin (k0_t1_loop i).trips) : Fin 3 → Nat :=
  let c0_202 : Index := 0#32
  let c0_i32_14 : BitVec 32 := 0#32
  let c1_i32_16 : BitVec 32 := 1#32
  let arg12 : BitVec 32 := Scf.iv c0_i32_14 c1_i32_16 k0_t1
  let c256_i32_201 : BitVec 32 := 256#32
  let v621 : BitVec 32 := Scalar.muli arg12 c256_i32_201
  let v622 : Index := Scalar.indexCast v621
  let c0_203 : Index := 0#32
  ![0, v622.toNat, 0]
def k0_off2 (i : grid0.Coords) (k0_t1 : Fin (k0_t1_loop i).trips) : Fin 2 → Nat :=
  let c0_i32_14 : BitVec 32 := 0#32
  let c1_i32_16 : BitVec 32 := 1#32
  let arg12 : BitVec 32 := Scf.iv c0_i32_14 c1_i32_16 k0_t1
  let c256_i32_205 : BitVec 32 := 256#32
  let v626 : BitVec 32 := Scalar.muli arg12 c256_i32_205
  let v627 : Index := Scalar.indexCast v626
  let c0_206 : Index := 0#32
  ![v627.toNat, 0]
def k0_off3 (i : grid0.Coords) (k0_t1 : Fin (k0_t1_loop i).trips) (c0_i32_209 : BitVec 32) : Fin 2 → Nat :=
  let arg0 : BitVec 32 := BitVec.ofNat 32 (i 0).val
  let v638 : Index := Scalar.indexCast arg0
  let c0_i32_14 : BitVec 32 := 0#32
  let c1_i32_16 : BitVec 32 := 1#32
  let arg12 : BitVec 32 := Scf.iv c0_i32_14 c1_i32_16 k0_t1
  let c2_i32_208 : BitVec 32 := 2#32
  let v634 : BitVec 32 := Scalar.muli arg12 c2_i32_208
  let v635 : BitVec 32 := Scalar.addi v634 c0_i32_209
  let c8_i32_210 : BitVec 32 := 8#32
  let v636 : BitVec 32 := Scalar.muli v635 c8_i32_210
  let arg1 : BitVec 32 := BitVec.ofNat 32 (i 1).val
  let v637 : BitVec 32 := Scalar.addi v636 arg1
  let v639 : Index := Scalar.indexCast v637
  ![v638.toNat, v639.toNat]
@[reducible] def k0_t2_loop (i : grid0.Coords) : Scf.Loop 32 :=
  let c0_i32_14 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_13 : BitVec 32 := 1#32
  let v27 : BitVec 32 := Scalar.subi v17 c1_i32_13
  let v29 : BitVec 32 := Scalar.subi v27 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let v30 : BitVec 32 := Scalar.addi c0_i32_14 v29
  let c1_i32_17 : BitVec 32 := 1#32
  ⟨v33, v30, c1_i32_17⟩
def k0_off4 (i : grid0.Coords) (k0_t2 : Fin (k0_t2_loop i).trips) : Fin 3 → Nat :=
  let c0_202 : Index := 0#32
  let c0_i32_14 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_13 : BitVec 32 := 1#32
  let v27 : BitVec 32 := Scalar.subi v17 c1_i32_13
  let v29 : BitVec 32 := Scalar.subi v27 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg12 : BitVec 32 := Scf.iv v33 c1_i32_17 k0_t2
  let c256_i32_201 : BitVec 32 := 256#32
  let v621 : BitVec 32 := Scalar.muli arg12 c256_i32_201
  let v622 : Index := Scalar.indexCast v621
  let c0_203 : Index := 0#32
  ![0, v622.toNat, 0]
def k0_off5 (i : grid0.Coords) (k0_t2 : Fin (k0_t2_loop i).trips) : Fin 2 → Nat :=
  let c0_i32_14 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_13 : BitVec 32 := 1#32
  let v27 : BitVec 32 := Scalar.subi v17 c1_i32_13
  let v29 : BitVec 32 := Scalar.subi v27 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg12 : BitVec 32 := Scf.iv v33 c1_i32_17 k0_t2
  let c256_i32_205 : BitVec 32 := 256#32
  let v626 : BitVec 32 := Scalar.muli arg12 c256_i32_205
  let v627 : Index := Scalar.indexCast v626
  let c0_206 : Index := 0#32
  ![v627.toNat, 0]
def k0_off6 (i : grid0.Coords) (k0_t2 : Fin (k0_t2_loop i).trips) (c0_i32_209 : BitVec 32) : Fin 2 → Nat :=
  let arg0 : BitVec 32 := BitVec.ofNat 32 (i 0).val
  let v638 : Index := Scalar.indexCast arg0
  let c0_i32_14 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_13 : BitVec 32 := 1#32
  let v27 : BitVec 32 := Scalar.subi v17 c1_i32_13
  let v29 : BitVec 32 := Scalar.subi v27 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg12 : BitVec 32 := Scf.iv v33 c1_i32_17 k0_t2
  let c2_i32_208 : BitVec 32 := 2#32
  let v634 : BitVec 32 := Scalar.muli arg12 c2_i32_208
  let v635 : BitVec 32 := Scalar.addi v634 c0_i32_209
  let c8_i32_210 : BitVec 32 := 8#32
  let v636 : BitVec 32 := Scalar.muli v635 c8_i32_210
  let arg1 : BitVec 32 := BitVec.ofNat 32 (i 1).val
  let v637 : BitVec 32 := Scalar.addi v636 arg1
  let v639 : Index := Scalar.indexCast v637
  ![v638.toNat, v639.toNat]
def k0_off7 (i : grid0.Coords) : Fin 3 → Nat :=
  let c0_20 : Index := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_18 : BitVec 32 := 1#32
  let v36 : BitVec 32 := Scalar.subi v17 c1_i32_18
  let c256_i32_19 : BitVec 32 := 256#32
  let v48 : BitVec 32 := Scalar.muli v36 c256_i32_19
  let v49 : Index := Scalar.indexCast v48
  let c0_21 : Index := 0#32
  ![0, v49.toNat, 0]
def k0_off8 (i : grid0.Coords) : Fin 2 → Nat :=
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_18 : BitVec 32 := 1#32
  let v36 : BitVec 32 := Scalar.subi v17 c1_i32_18
  let c256_i32_24 : BitVec 32 := 256#32
  let v55 : BitVec 32 := Scalar.muli v36 c256_i32_24
  let v56 : Index := Scalar.indexCast v55
  let c0_25 : Index := 0#32
  ![v56.toNat, 0]
def k0_off9 (i : grid0.Coords) (c0_i32_28 : BitVec 32) : Fin 2 → Nat :=
  let arg0 : BitVec 32 := BitVec.ofNat 32 (i 0).val
  let v67 : Index := Scalar.indexCast arg0
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let c1_i32_18 : BitVec 32 := 1#32
  let v36 : BitVec 32 := Scalar.subi v17 c1_i32_18
  let c2_i32_27 : BitVec 32 := 2#32
  let v63 : BitVec 32 := Scalar.muli v36 c2_i32_27
  let v64 : BitVec 32 := Scalar.addi v63 c0_i32_28
  let c8_i32 : BitVec 32 := 8#32
  let v65 : BitVec 32 := Scalar.muli v64 c8_i32
  let arg1 : BitVec 32 := BitVec.ofNat 32 (i 1).val
  let v66 : BitVec 32 := Scalar.addi v65 arg1
  let v68 : Index := Scalar.indexCast v66
  ![v67.toNat, v68.toNat]
def k0_off10 (i : grid0.Coords) (c0_i32_33 : BitVec 32) : Fin 2 → Nat :=
  let arg0 : BitVec 32 := BitVec.ofNat 32 (i 0).val
  let v90 : Index := Scalar.indexCast arg0
  let arg2 : BitVec 32 := BitVec.ofNat 32 (i 2).val
  let c32_i32 : BitVec 32 := 32#32
  let v86 : BitVec 32 := Scalar.muli arg2 c32_i32
  let arg1 : BitVec 32 := BitVec.ofNat 32 (i 1).val
  let c4_i32 : BitVec 32 := 4#32
  let v87 : BitVec 32 := Scalar.muli arg1 c4_i32
  let v88 : BitVec 32 := Scalar.addi v86 v87
  let v89 : BitVec 32 := Scalar.addi v88 c0_i32_33
  let v91 : Index := Scalar.indexCast v89
  ![v90.toNat, v91.toNat]
@[reducible] def k0_t3_loop (i : grid0.Coords) : Scf.Loop 32 :=
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_184 : BitVec 32 := 1#32
  ⟨c0_i32_182, v587, c1_i32_184⟩
def k0_mult1 (i : grid0.Coords) (k0_t3 : Fin (k0_t3_loop i).trips) : BitVec 32 :=
  let c0_i32_182 : BitVec 32 := 0#32
  let c1_i32_184 : BitVec 32 := 1#32
  let arg12 : BitVec 32 := Scf.iv c0_i32_182 c1_i32_184 k0_t3
  let c256_i32_201 : BitVec 32 := 256#32
  let v621 : BitVec 32 := Scalar.muli arg12 c256_i32_201
  let c0_i32_202 : BitVec 32 := 0#32
  let v622 : BitVec 32 := Scalar.addi v621 c0_i32_202
  v622
def k0_off11 (i : grid0.Coords) (k0_t3 : Fin (k0_t3_loop i).trips) (c0_i32_204 : BitVec 32) : Fin 2 → Nat :=
  let arg0 : BitVec 32 := BitVec.ofNat 32 (i 0).val
  let v628 : Index := Scalar.indexCast arg0
  let c0_i32_182 : BitVec 32 := 0#32
  let c1_i32_184 : BitVec 32 := 1#32
  let arg12 : BitVec 32 := Scf.iv c0_i32_182 c1_i32_184 k0_t3
  let c2_i32_203 : BitVec 32 := 2#32
  let v624 : BitVec 32 := Scalar.muli arg12 c2_i32_203
  let v625 : BitVec 32 := Scalar.addi v624 c0_i32_204
  let c8_i32_205 : BitVec 32 := 8#32
  let v626 : BitVec 32 := Scalar.muli v625 c8_i32_205
  let arg1 : BitVec 32 := BitVec.ofNat 32 (i 1).val
  let v627 : BitVec 32 := Scalar.addi v626 arg1
  let v629 : Index := Scalar.indexCast v627
  ![v628.toNat, v629.toNat]
def k0_off12 (i : grid0.Coords) (k0_t3 : Fin (k0_t3_loop i).trips) (c0_i32_202 : BitVec 32) : Fin 2 → Nat :=
  let c0_i32_182 : BitVec 32 := 0#32
  let c1_i32_184 : BitVec 32 := 1#32
  let arg12 : BitVec 32 := Scf.iv c0_i32_182 c1_i32_184 k0_t3
  let c256_i32_201 : BitVec 32 := 256#32
  let v621 : BitVec 32 := Scalar.muli arg12 c256_i32_201
  let v622 : BitVec 32 := Scalar.addi v621 c0_i32_202
  let v623 : BitVec 32 := v622
  let v633 : Index := Scalar.indexCast v623
  let c0_206 : Index := 0#32
  ![v633.toNat, 0]
def k0_off13 (i : grid0.Coords) (k0_t3 : Fin (k0_t3_loop i).trips) (c0_i32_202 : BitVec 32) : Fin 4 → Nat :=
  let c0_210 : Index := 0#32
  let c0_211 : Index := 0#32
  let c0_212 : Index := 0#32
  let c0_i32_182 : BitVec 32 := 0#32
  let c1_i32_184 : BitVec 32 := 1#32
  let arg12 : BitVec 32 := Scf.iv c0_i32_182 c1_i32_184 k0_t3
  let c256_i32_201 : BitVec 32 := 256#32
  let v621 : BitVec 32 := Scalar.muli arg12 c256_i32_201
  let v622 : BitVec 32 := Scalar.addi v621 c0_i32_202
  let v623 : BitVec 32 := v622
  let v651 : Index := Scalar.indexCast v623
  ![0, 0, 0, v651.toNat]
def k0_mult2 (i : grid0.Coords) (k0_t3 : Fin (k0_t3_loop i).trips) : BitVec 32 :=
  let c0_i32_182 : BitVec 32 := 0#32
  let c1_i32_184 : BitVec 32 := 1#32
  let arg12 : BitVec 32 := Scf.iv c0_i32_182 c1_i32_184 k0_t3
  let c256_i32_221 : BitVec 32 := 256#32
  let v669 : BitVec 32 := Scalar.muli arg12 c256_i32_221
  let c128_i32_222 : BitVec 32 := 128#32
  let v670 : BitVec 32 := Scalar.addi v669 c128_i32_222
  v670
@[reducible] def k0_t4_loop (i : grid0.Coords) : Scf.Loop 32 :=
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let v584 : BitVec 32 := Scalar.addi c0_i32_182 v583
  let c1_i32_185 : BitVec 32 := 1#32
  ⟨v587, v584, c1_i32_185⟩
def k0_mult3 (i : grid0.Coords) (k0_t4 : Fin (k0_t4_loop i).trips) : BitVec 32 :=
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_185 : BitVec 32 := 1#32
  let arg12 : BitVec 32 := Scf.iv v587 c1_i32_185 k0_t4
  let c256_i32_201 : BitVec 32 := 256#32
  let v621 : BitVec 32 := Scalar.muli arg12 c256_i32_201
  let c0_i32_202 : BitVec 32 := 0#32
  let v622 : BitVec 32 := Scalar.addi v621 c0_i32_202
  v622
def k0_off14 (i : grid0.Coords) (k0_t4 : Fin (k0_t4_loop i).trips) (c0_i32_204 : BitVec 32) : Fin 2 → Nat :=
  let arg0 : BitVec 32 := BitVec.ofNat 32 (i 0).val
  let v628 : Index := Scalar.indexCast arg0
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_185 : BitVec 32 := 1#32
  let arg12 : BitVec 32 := Scf.iv v587 c1_i32_185 k0_t4
  let c2_i32_203 : BitVec 32 := 2#32
  let v624 : BitVec 32 := Scalar.muli arg12 c2_i32_203
  let v625 : BitVec 32 := Scalar.addi v624 c0_i32_204
  let c8_i32_205 : BitVec 32 := 8#32
  let v626 : BitVec 32 := Scalar.muli v625 c8_i32_205
  let arg1 : BitVec 32 := BitVec.ofNat 32 (i 1).val
  let v627 : BitVec 32 := Scalar.addi v626 arg1
  let v629 : Index := Scalar.indexCast v627
  ![v628.toNat, v629.toNat]
def k0_off15 (i : grid0.Coords) (k0_t4 : Fin (k0_t4_loop i).trips) (c0_i32_202 : BitVec 32) : Fin 2 → Nat :=
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_185 : BitVec 32 := 1#32
  let arg12 : BitVec 32 := Scf.iv v587 c1_i32_185 k0_t4
  let c256_i32_201 : BitVec 32 := 256#32
  let v621 : BitVec 32 := Scalar.muli arg12 c256_i32_201
  let v622 : BitVec 32 := Scalar.addi v621 c0_i32_202
  let v623 : BitVec 32 := v622
  let v633 : Index := Scalar.indexCast v623
  let c0_206 : Index := 0#32
  ![v633.toNat, 0]
def k0_off16 (i : grid0.Coords) (k0_t4 : Fin (k0_t4_loop i).trips) (c0_i32_202 : BitVec 32) : Fin 4 → Nat :=
  let c0_210 : Index := 0#32
  let c0_211 : Index := 0#32
  let c0_212 : Index := 0#32
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_185 : BitVec 32 := 1#32
  let arg12 : BitVec 32 := Scf.iv v587 c1_i32_185 k0_t4
  let c256_i32_201 : BitVec 32 := 256#32
  let v621 : BitVec 32 := Scalar.muli arg12 c256_i32_201
  let v622 : BitVec 32 := Scalar.addi v621 c0_i32_202
  let v623 : BitVec 32 := v622
  let v651 : Index := Scalar.indexCast v623
  ![0, 0, 0, v651.toNat]
def k0_mult4 (i : grid0.Coords) (k0_t4 : Fin (k0_t4_loop i).trips) : BitVec 32 :=
  let c0_i32_182 : BitVec 32 := 0#32
  let arg2 : BitVec 32 := BitVec.ofNat 32 (i 2).val
  let c2_i32 : BitVec 32 := 2#32
  let v0 : BitVec 32 := Scalar.addi arg2 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v583 : BitVec 32 := Scalar.subi v17 c0_i32_182
  let c1_i32_183 : BitVec 32 := 1#32
  let v585 : BitVec 32 := Scalar.divsi v583 c1_i32_183
  let v586 : BitVec 32 := Scalar.muli v585 c1_i32_183
  let v587 : BitVec 32 := Scalar.addi c0_i32_182 v586
  let c1_i32_185 : BitVec 32 := 1#32
  let arg12 : BitVec 32 := Scf.iv v587 c1_i32_185 k0_t4
  let c256_i32_221 : BitVec 32 := 256#32
  let v669 : BitVec 32 := Scalar.muli arg12 c256_i32_221
  let c128_i32_222 : BitVec 32 := 128#32
  let v670 : BitVec 32 := Scalar.addi v669 c128_i32_222
  v670
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnIdeal.lean ====
variable {F : FTy → Type} [FloatOps F] [Named F]
def κ : String → Option EReal := fun
  | "log2e" => some (((Real.log 2)⁻¹ : ℝ) : EReal)
  | _ => none
-- ==== RefIdeal.lean ====
abbrev S8x4096x8192 : Shape := ⟨3, ![8, 4096, 8192]⟩
abbrev S8x32x32 : Shape := ⟨3, ![8, 32, 32]⟩
abbrev S8x4096x2048 : Shape := ⟨3, ![8, 4096, 2048]⟩
abbrev S8x32x8 : Shape := ⟨3, ![8, 32, 8]⟩
abbrev S8x8x256x4096 : Shape := ⟨4, ![8, 8, 256, 4096]⟩
abbrev S8x4096x8x4x256 : Shape := ⟨5, ![8, 4096, 8, 4, 256]⟩
abbrev S8x4096x8x256 : Shape := ⟨4, ![8, 4096, 8, 256]⟩
abbrev S8x32x8x4 : Shape := ⟨4, ![8, 32, 8, 4]⟩
abbrev S8x8x4x32 : Shape := ⟨4, ![8, 8, 4, 32]⟩
abbrev S8x8x4x32x1 : Shape := ⟨5, ![8, 8, 4, 32, 1]⟩
abbrev S8x8x4x32x128 : Shape := ⟨5, ![8, 8, 4, 32, 128]⟩
abbrev S8x8x4x4096 : Shape := ⟨4, ![8, 8, 4, 4096]⟩
abbrev S8x8x32 : Shape := ⟨3, ![8, 8, 32]⟩
abbrev S8x8x32x1 : Shape := ⟨4, ![8, 8, 32, 1]⟩
abbrev S8x8x32x128 : Shape := ⟨4, ![8, 8, 32, 128]⟩
abbrev S8x8x4096 : Shape := ⟨3, ![8, 8, 4096]⟩
abbrev S8x8x4096x4096x4 : Shape := ⟨5, ![8, 8, 4096, 4096, 4]⟩
abbrev S8x8x4x4096x4096 : Shape := ⟨5, ![8, 8, 4, 4096, 4096]⟩
abbrev S_ : Shape := ⟨0, ![]⟩
abbrev S8x8x4x4096x1 : Shape := ⟨5, ![8, 8, 4, 4096, 1]⟩
abbrev S8x8x1x1x4096 : Shape := ⟨5, ![8, 8, 1, 1, 4096]⟩
abbrev S254 : Shape := ⟨1, ![254]⟩
abbrev S1x1x1x1x254 : Shape := ⟨5, ![1, 1, 1, 1, 254]⟩
abbrev S8x8x4x32x254 : Shape := ⟨5, ![8, 8, 4, 32, 254]⟩
abbrev S8x8x4x4096x32x128 : Shape := ⟨6, ![8, 8, 4, 4096, 32, 128]⟩
abbrev S8x8x256x32x128 : Shape := ⟨5, ![8, 8, 256, 32, 128]⟩
abbrev S8x8x32x256x4x4096 : Shape := ⟨6, ![8, 8, 32, 256, 4, 4096]⟩
abbrev S8x8x4x4096x32x256 : Shape := ⟨6, ![8, 8, 4, 4096, 32, 256]⟩
abbrev S8x8x1x1x32x1 : Shape := ⟨6, ![8, 8, 1, 1, 32, 1]⟩
abbrev S8x8x4x4096x256 : Shape := ⟨5, ![8, 8, 4, 4096, 256]⟩

abbrev nBuf : Space → Nat
  | .hbm => 126
  | .vmem => 6
  | .smem => 0
  | _ => 0

abbrev bufTy : (tb : Table) → Fin (tcTables nBuf tb) → BufTy
  | .hbm, ⟨0, _⟩ => ⟨S8x4096x8192, .fp8e4m3⟩
  | .hbm, ⟨1, _⟩ => ⟨S8x32x32, .f32⟩
  | .hbm, ⟨2, _⟩ => ⟨S8x4096x2048, .fp8e4m3⟩
  | .hbm, ⟨3, _⟩ => ⟨S8x32x8, .f32⟩
  | .hbm, ⟨4, _⟩ => ⟨S8x8x256x4096, .fp8e4m3⟩
  | .hbm, ⟨5, _⟩ => ⟨S8x32x8, .f32⟩
  | .hbm, ⟨6, _⟩ => ⟨S8x4096x8192, .f32⟩
  | .hbm, ⟨7, _⟩ => ⟨S8x4096x2048, .f32⟩
  | .hbm, ⟨8, _⟩ => ⟨S8x8x256x4096, .f32⟩
  | .hbm, ⟨9, _⟩ => ⟨S8x4096x8x4x256, .f32⟩
  | .hbm, ⟨10, _⟩ => ⟨S8x4096x8x256, .f32⟩
  | .hbm, ⟨11, _⟩ => ⟨S8x32x8x4, .f32⟩
  | .hbm, ⟨12, _⟩ => ⟨S8x8x4x32, .f32⟩
  | .hbm, ⟨13, _⟩ => ⟨S8x8x4x32x1, .f32⟩
  | .hbm, ⟨14, _⟩ => ⟨S8x8x4x32x128, .f32⟩
  | .hbm, ⟨15, _⟩ => ⟨S8x8x4x4096, .f32⟩
  | .hbm, ⟨16, _⟩ => ⟨S8x8x32, .f32⟩
  | .hbm, ⟨17, _⟩ => ⟨S8x8x32x1, .f32⟩
  | .hbm, ⟨18, _⟩ => ⟨S8x8x32x128, .f32⟩
  | .hbm, ⟨19, _⟩ => ⟨S8x8x4096, .f32⟩
  | .hbm, ⟨20, _⟩ => ⟨S8x8x4096x4096x4, .f32⟩
  | .hbm, ⟨21, _⟩ => ⟨S8x8x4x4096x4096, .f32⟩
  | .hbm, ⟨22, _⟩ => ⟨S_, .f32⟩
  | .hbm, ⟨23, _⟩ => ⟨S8x8x4x4096, .f32⟩
  | .hbm, ⟨24, _⟩ => ⟨S8x8x4x4096, .f32⟩
  | .hbm, ⟨25, _⟩ => ⟨S8x8x4x4096x1, .f32⟩
  | .hbm, ⟨26, _⟩ => ⟨S8x8x4x4096x4096, .f32⟩
  | .hbm, ⟨27, _⟩ => ⟨S8x8x4x4096x4096, .f32⟩
  | .hbm, ⟨28, _⟩ => ⟨S8x8x1x1x4096, .f32⟩
  | .hbm, ⟨29, _⟩ => ⟨S8x8x4x4096x4096, .f32⟩
  | .hbm, ⟨30, _⟩ => ⟨S8x8x4x4096x4096, .f32⟩
  | .hbm, ⟨31, _⟩ => ⟨S8x8x4x4096x4096, .i32⟩
  | .hbm, ⟨32, _⟩ => ⟨S8x8x4x4096x4096, .i32⟩
  | .hbm, ⟨33, _⟩ => ⟨S8x8x4x4096x4096, .i1⟩
  | .hbm, ⟨34, _⟩ => ⟨S_, .f32⟩
  | .hbm, ⟨35, _⟩ => ⟨S_, .f32⟩
  | .hbm, ⟨36, _⟩ => ⟨S8x8x4x4096x4096, .f32⟩
  | .hbm, ⟨37, _⟩ => ⟨S8x8x4x4096x4096, .f32⟩
  | .hbm, ⟨38, _⟩ => ⟨S_, .f32⟩
  | .hbm, ⟨39, _⟩ => ⟨S8x8x4x4096, .f32⟩
  | .hbm, ⟨40, _⟩ => ⟨S8x8x4x4096x1, .f32⟩
  | .hbm, ⟨41, _⟩ => ⟨S8x8x4x4096x4096, .f32⟩
  | .hbm, ⟨42, _⟩ => ⟨S8x8x4x4096x4096, .f32⟩
  | .hbm, ⟨43, _⟩ => ⟨S8x8x4x4096x4096, .f32⟩
  | .hbm, ⟨44, _⟩ => ⟨S_, .f32⟩
  | .hbm, ⟨45, _⟩ => ⟨S8x8x4x4096, .f32⟩
  | .hbm, ⟨46, _⟩ => ⟨S8x8x4x4096x4096, .f32⟩
  | .hbm, ⟨47, _⟩ => ⟨S_, .f32⟩
  | .hbm, ⟨48, _⟩ => ⟨S8x8x4x4096, .f32⟩
  | .hbm, ⟨49, _⟩ => ⟨S8x8x4x32x128, .f32⟩
  | .hbm, ⟨50, _⟩ => ⟨S_, .f32⟩
  | .hbm, ⟨51, _⟩ => ⟨S8x8x4x32, .f32⟩
  | .hbm, ⟨52, _⟩ => ⟨S254, .f32⟩
  | .hbm, ⟨53, _⟩ => ⟨S_, .f32⟩
  | .hbm, ⟨54, _⟩ => ⟨S254, .f32⟩
  | .hbm, ⟨55, _⟩ => ⟨S254, .f32⟩
  | .hbm, ⟨56, _⟩ => ⟨S_, .f32⟩
  | .hbm, ⟨57, _⟩ => ⟨S254, .f32⟩
  | .hbm, ⟨58, _⟩ => ⟨S254, .f32⟩
  | .hbm, ⟨59, _⟩ => ⟨S_, .f32⟩
  | .hbm, ⟨60, _⟩ => ⟨S8x8x4x32, .f32⟩
  | .hbm, ⟨61, _⟩ => ⟨S8x8x4x32, .f32⟩
  | .hbm, ⟨62, _⟩ => ⟨S8x8x4x32x1, .f32⟩
  | .hbm, ⟨63, _⟩ => ⟨S1x1x1x1x254, .f32⟩
  | .hbm, ⟨64, _⟩ => ⟨S8x8x4x32x254, .f32⟩
  | .hbm, ⟨65, _⟩ => ⟨S8x8x4x32x254, .f32⟩
  | .hbm, ⟨66, _⟩ => ⟨S8x8x4x32x254, .i1⟩
  | .hbm, ⟨67, _⟩ => ⟨S_, .f32⟩
  | .hbm, ⟨68, _⟩ => ⟨S_, .f32⟩
  | .hbm, ⟨69, _⟩ => ⟨S8x8x4x32x254, .f32⟩
  | .hbm, ⟨70, _⟩ => ⟨S8x8x4x32x254, .f32⟩
  | .hbm, ⟨71, _⟩ => ⟨S8x8x4x32x254, .f32⟩
  | .hbm, ⟨72, _⟩ => ⟨S8x8x4x32x254, .f32⟩
  | .hbm, ⟨73, _⟩ => ⟨S_, .f32⟩
  | .hbm, ⟨74, _⟩ => ⟨S8x8x4x32, .f32⟩
  | .hbm, ⟨75, _⟩ => ⟨S_, .f32⟩
  | .hbm, ⟨76, _⟩ => ⟨S8x8x4x32, .f32⟩
  | .hbm, ⟨77, _⟩ => ⟨S8x8x4x32, .f32⟩
  | .hbm, ⟨78, _⟩ => ⟨S_, .f32⟩
  | .hbm, ⟨79, _⟩ => ⟨S8x8x4x32, .f32⟩
  | .hbm, ⟨80, _⟩ => ⟨S8x8x4x32, .i1⟩
  | .hbm, ⟨81, _⟩ => ⟨S_, .f32⟩
  | .hbm, ⟨82, _⟩ => ⟨S_, .f32⟩
  | .hbm, ⟨83, _⟩ => ⟨S8x8x4x32, .f32⟩
  | .hbm, ⟨84, _⟩ => ⟨S8x8x4x32, .f32⟩
  | .hbm, ⟨85, _⟩ => ⟨S8x8x4x32, .f32⟩
  | .hbm, ⟨86, _⟩ => ⟨S_, .f32⟩
  | .hbm, ⟨87, _⟩ => ⟨S8x8x4x32, .f32⟩
  | .hbm, ⟨88, _⟩ => ⟨S8x8x4x32, .f32⟩
  | .hbm, ⟨89, _⟩ => ⟨S8x8x4x32x1, .f32⟩
  | .hbm, ⟨90, _⟩ => ⟨S8x8x4x32x128, .f32⟩
  | .hbm, ⟨91, _⟩ => ⟨S8x8x4x4096, .f32⟩
  | .hbm, ⟨92, _⟩ => ⟨S8x8x4x4096x1, .f32⟩
  | .hbm, ⟨93, _⟩ => ⟨S8x8x4x4096x4096, .f32⟩
  | .hbm, ⟨94, _⟩ => ⟨S8x8x4x4096x4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8x8x4x4096x4096, .f32⟩
  | .hbm, ⟨99, _⟩ => ⟨S8x8x4x4096x4096, .f32⟩
  | .hbm, ⟨100, _⟩ => ⟨S_, .f32⟩
  | .hbm, ⟨101, _⟩ => ⟨S8x8x4x4096x4096, .f32⟩
  | .hbm, ⟨102, _⟩ => ⟨S8x8x4x4096x4096, .f32⟩
  | .hbm, ⟨103, _⟩ => ⟨S8x8x4x4096x32x128, .f32⟩
  | .hbm, ⟨104, _⟩ => ⟨S8x8x256x32x128, .f32⟩
  | .hbm, ⟨105, _⟩ => ⟨S8x8x32x256x4x4096, .f32⟩
  | .hbm, ⟨106, _⟩ => ⟨S8x8x4x4096x32x256, .f32⟩
  | .hbm, ⟨107, _⟩ => ⟨S8x8x32, .f32⟩
  | .hbm, ⟨108, _⟩ => ⟨S8x8x1x1x32x1, .f32⟩
  | .hbm, ⟨109, _⟩ => ⟨S8x8x4x4096x32x256, .f32⟩
  | .hbm, ⟨110, _⟩ => ⟨S8x8x4x4096x32x256, .f32⟩
  | .hbm, ⟨111, _⟩ => ⟨S_, .f32⟩
  | .hbm, ⟨112, _⟩ => ⟨S8x8x4x4096x256, .f32⟩
  | .hbm, ⟨113, _⟩ => ⟨S_, .f32⟩
  | .hbm, ⟨114, _⟩ => ⟨S8x8x4x32, .f32⟩
  | .hbm, ⟨115, _⟩ => ⟨S8x8x4x32, .f32⟩
  | .hbm, ⟨116, _⟩ => ⟨S8x8x4x32x1, .f32⟩
  | .hbm, ⟨117, _⟩ => ⟨S8x8x4x32x128, .f32⟩
  | .hbm, ⟨118, _⟩ => ⟨S8x8x4x4096, .f32⟩
  | .hbm, ⟨119, _⟩ => ⟨S8x8x4x4096, .f32⟩
  | .hbm, ⟨120, _⟩ => ⟨S8x8x4x4096x1, .f32⟩
  | .hbm, ⟨121, _⟩ => ⟨S8x8x4x4096x256, .f32⟩
  | .hbm, ⟨122, _⟩ => ⟨S8x8x4x4096x256, .f32⟩
  | .hbm, ⟨123, _⟩ => ⟨S8x4096x8x4x256, .f32⟩
  | .hbm, ⟨124, _⟩ => ⟨S8x4096x8192, .f32⟩
  | .hbm, ⟨125, _⟩ => ⟨S8x4096x8192, .bf16⟩
  | .local _ .vmem, ⟨0, _⟩ => ⟨S8x4096x8192, .fp8e4m3⟩
  | .local _ .vmem, ⟨1, _⟩ => ⟨S8x4096x2048, .fp8e4m3⟩
  | .local _ .vmem, ⟨2, _⟩ => ⟨S8x8x256x4096, .fp8e4m3⟩
  | .local _ .vmem, ⟨3, _⟩ => ⟨S8x4096x8192, .f32⟩
  | .local _ .vmem, ⟨4, _⟩ => ⟨S8x4096x2048, .f32⟩
  | .local _ .vmem, ⟨5, _⟩ => ⟨S8x8x256x4096, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_cst_16 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_17 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x256x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Attn.Run.lean ====
/- The body of `cc0_attention` runs to its end from any contents of its buffers, and hands the operands back as they
   were: the triple the frame is proved from. The last part, whose loop reads the scores the earlier parts left in the
   scratch, is a lemma of its own over any contents of that scratch. -/
module

public import proofs.«01_k».proof.Proof.Gen.Attn.Frame
public import proofs.«01_k».proof.Proof.Gen.Attn.Loops

@[expose] public section

-- membership in a rectangle of production extents (`View.cover_of_tiled`): the elaborator's structural look
-- recurses once per coordinate of the long axes
set_option maxRecDepth 16384

noncomputable section

namespace Cert.Attn.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers of a point, and the scratch -/

abbrev ms0_0 (t : Fin cfg0.N) : Memref sig .tc .smem S8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4096x512 .f32 := Memref.whole cc0_scratch0
abbrev scM0_1 : Memref sig .tc .vmem S256x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The last part of the body (the second pass over the keys and the first three heads' results), from any contents
    of the buffers: it runs, and hands every buffer back at some contents. -/
theorem part18_run (c : Dev nD) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole) (arg0 arg1 v17 : BitVec 32) (v526 : FVec F S1x512 .f32) (v573 v577 : FVec F S8x512 .f32)
    (X4 : BufTy.Contents (Elt F) arg4.view.ty) (X5 : BufTy.Contents (Elt F) arg5.view.ty) (X8 : BufTy.Contents (Elt F) arg8.view.ty)
    (X9 : BufTy.Contents (Elt F) arg9.view.ty) (X10 : BufTy.Contents (Elt F) arg10.view.ty) (X11 : BufTy.Contents (Elt F) arg11.view.ty) (E : Set ℕ)
    (K : (Σ' (_ : FVec F S256x512 .f32), FVec F S1x128x256 .bf16) → sProp 𝕄) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
        ∗ (∀ r, iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K r))
      ⊢ wp frame (wpE (defs₀ (F := F)) Variants.none c none) E (k0_part18 i arg3 harg3 arg4 harg4 arg5 harg5 arg6 harg6 arg7 harg7 arg8 harg8 arg9 harg9 arg10 harg10 arg11 harg11 arg0 arg1 v17 v526 v573 v577) K := by
  simp only [k0_part18_eq_skeleton]; unfold k0_part18_skel
  iintro ⟨H4, H5, H8, H9, H10, H11, Hk⟩
  sl_exec
  sl_step
  iapply Hk
  isplitl [H4]; · iexact H4
  isplitl [H5]; · iexact H5
  isplitl [H8]; · iexact H8
  isplitl [H9]; · iexists _; iexact H9
  isplitl [H10]; · iexists _; iexact H10
  iexists _; iexact H11

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole)
    (x0 : Vec F S8x1024 .f32) (x1 : Vec F S8x256 .f32) (x2 : Vec F S8x256 .f32) (x3 : Vec F S1x128x1024 .fp8e4m3) (x4 : Vec F S1x4096x256 .fp8e4m3) (x5 : Vec F S1x1x256x4096 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11) K := by
    intro E K
    simp only [cc0_attention_eq_skeleton]; unfold cc0_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    set_option sl_exec.stopBefore "k0_part18" in sl_exec
    rw [wp_bind]
    iapply part18_run
    isplitl [H1]; · iexact H1
    isplitl [H2]; · iexact H2
    isplitl [H5]; · iexact H5
    isplitl [H6]; · iexact H6
    isplitl [HS0]; · iexact HS0
    isplitl [HS1]; · iexact HS1
    iintro %r ⟨H1, H2, H5, ⟨%g9, H6⟩, ⟨%g10, HS0⟩, ⟨%g11, HS1⟩⟩
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Attn.Hand

end
-- ==== Proof.Attn.Frame.lean ====
/- The frame of `cc0_attention`'s program: the pipeline's proof data, the body obligation at a generic point, the run
   and what it leaves unchanged. Nothing is said of the result's contents here. -/
module

public import proofs.«01_k».proof.Proof.Attn.Run
public import Idealize.ShloMosaic.Lib.Claim

@[expose] public section

-- membership in a rectangle of production extents (`View.cover_of_tiled`): the elaborator's structural look
-- recurses once per coordinate of the long axes
set_option maxRecDepth 16384

noncomputable section

namespace Cert.Attn.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window whose contents the frame says nothing of (6): nothing reads what the kernel leaves in them, so nothing
    of it is named. -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- What the run leaves says that every argument array is as it was at the launch. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 5 rfl).trans ((hA c 5).trans (V_main_arg4 m c)),
      ((h c).2 main_arg5 (Pipeline.mem_restRefs_of main_arg5 (by decide) (by decide))).trans (V_main_arg5 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forgotten m ρ (fun c => (dats m 0 c).toRForget forgets0) (A_eq m) (run_main m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Attn.Hand

end
-- ==== Proof.AttnIdeal.Run.lean ====
/- The body of `cc0_attention` runs to its end from any contents of its buffers, and hands the operands back as they
   were: the triple the frame is proved from. The last part, whose loop reads the scores the earlier parts left in the
   scratch, is a lemma of its own over any contents of that scratch. -/
module

public import proofs.«01_k».proof.Proof.Gen.AttnIdeal.Frame
public import proofs.«01_k».proof.Proof.Gen.AttnIdeal.Loops

@[expose] public section

-- membership in a rectangle of production extents (`View.cover_of_tiled`): the elaborator's structural look
-- recurses once per coordinate of the long axes
set_option maxRecDepth 16384

noncomputable section

namespace Cert.AttnIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers of a point, and the scratch -/

abbrev ms0_0 (t : Fin cfg0.N) : Memref sig .tc .smem S8x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4096x512 .f32 := Memref.whole cc0_scratch0
abbrev scM0_1 : Memref sig .tc .vmem S256x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The last part of the body (the second pass over the keys and the first three heads' results), from any contents
    of the buffers: it runs, and hands every buffer back at some contents. -/
theorem part18_run (c : Dev nD) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole) (arg0 arg1 v17 : BitVec 32) (v526 : FVec F S1x512 .f32) (v573 v577 : FVec F S8x512 .f32)
    (X4 : BufTy.Contents (Elt F) arg4.view.ty) (X5 : BufTy.Contents (Elt F) arg5.view.ty) (X8 : BufTy.Contents (Elt F) arg8.view.ty)
    (X9 : BufTy.Contents (Elt F) arg9.view.ty) (X10 : BufTy.Contents (Elt F) arg10.view.ty) (X11 : BufTy.Contents (Elt F) arg11.view.ty) (E : Set ℕ)
    (K : (Σ' (_ : FVec F S256x512 .f32), FVec F S1x128x256 .bf16) → sProp 𝕄) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
        ∗ (∀ r, iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K r))
      ⊢ wp frame (wpE (defs₀ (F := F)) Variants.none c none) E (k0_part18 i arg3 harg3 arg4 harg4 arg5 harg5 arg6 harg6 arg7 harg7 arg8 harg8 arg9 harg9 arg10 harg10 arg11 harg11 arg0 arg1 v17 v526 v573 v577) K := by
  simp only [k0_part18_eq_skeleton]; unfold k0_part18_skel
  iintro ⟨H4, H5, H8, H9, H10, H11, Hk⟩
  sl_exec
  sl_step
  iapply Hk
  isplitl [H4]; · iexact H4
  isplitl [H5]; · iexact H5
  isplitl [H8]; · iexact H8
  isplitl [H9]; · iexists _; iexact H9
  isplitl [H10]; · iexists _; iexact H10
  iexists _; iexact H11

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole)
    (x0 : Vec F S8x1024 .f32) (x1 : Vec F S8x256 .f32) (x2 : Vec F S8x256 .f32) (x3 : Vec F S1x128x1024 .fp8e4m3) (x4 : Vec F S1x4096x256 .fp8e4m3) (x5 : Vec F S1x1x256x4096 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11) K := by
    intro E K
    simp only [cc0_attention_eq_skeleton]; unfold cc0_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    set_option sl_exec.stopBefore "k0_part18" in sl_exec
    rw [wp_bind]
    iapply part18_run
    isplitl [H1]; · iexact H1
    isplitl [H2]; · iexact H2
    isplitl [H5]; · iexact H5
    isplitl [H6]; · iexact H6
    isplitl [HS0]; · iexact HS0
    isplitl [HS1]; · iexact HS1
    iintro %r ⟨H1, H2, H5, ⟨%g9, H6⟩, ⟨%g10, HS0⟩, ⟨%g11, HS1⟩⟩
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.AttnIdeal.Hand

end
-- ==== Proof.AttnIdeal.Frame.lean ====
/- The frame of `cc0_attention`'s program: the pipeline's proof data, the body obligation at a generic point, the run
   and what it leaves unchanged. Nothing is said of the result's contents here. -/
module

public import proofs.«01_k».proof.Proof.AttnIdeal.Run
public import Idealize.ShloMosaic.Lib.Claim

@[expose] public section

-- membership in a rectangle of production extents (`View.cover_of_tiled`): the elaborator's structural look
-- recurses once per coordinate of the long axes
set_option maxRecDepth 16384

noncomputable section

namespace Cert.AttnIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window whose contents the frame says nothing of (6): nothing reads what the kernel leaves in them, so nothing
    of it is named. -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- What the run leaves says that every argument array is as it was at the launch. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 5 rfl).trans ((hA c 5).trans (V_main_arg4 m c)),
      ((h c).2 main_arg5 (Pipeline.mem_restRefs_of main_arg5 (by decide) (by decide))).trans (V_main_arg5 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forgotten m ρ (fun c => (dats m 0 c).toRForget forgets0) (A_eq m) (run_main m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.AttnIdeal.Hand

end
-- ==== Proof.Value.Core.lean ====
module

public import Idealize.ShloMosaic.PureOps.Ideal.Laws
public import Mathlib.Analysis.SpecialFunctions.Pow.Real

/-! # The attention of one block of queries, over the extended reals

A point of the grid handles one block of 128 query positions of four query heads that share a key
head: 512 columns.  This file states what the kernel computes there (`kout`), what the reference
computes there (`rout`), and proves that the two agree when the scales are positive. -/

@[expose] public section
noncomputable section
namespace Cert.Value
open Idealize.ShloMosaic

/-- What a point of the grid reads: the key codes by position and feature, the query codes by
column and feature, the value codes by feature and position, the scales of the key blocks and of
the value blocks, the scales of the four query heads with the softmax scale in them, and the index
of the query block. -/
structure Pt where
  K : ℕ → Fin 256 → EReal
  Q : Fin 512 → Fin 256 → EReal
  V : Fin 256 → ℕ → EReal
  ks : ℕ → EReal
  vs : ℕ → EReal
  qr : Fin 4 → EReal
  i : ℕ

/-- The head of a column among the four of its group. -/
def grp (c : Fin 512) : Fin 4 := ⟨c.val / 128, by have := c.isLt; omega⟩
/-- The column of a head and a query position. -/
def col (g : Fin 4) (r : Fin 128) : Fin 512 := ⟨128 * g.val + r.val, by have := g.isLt; have := r.isLt; omega⟩

@[simp] theorem grp_col (g : Fin 4) (r : Fin 128) : grp (col g r) = g := by
  apply Fin.ext; simp only [grp, col]; have := r.isLt; omega

/-- The clip to the range of the narrow format. -/
def clip (x : EReal) : EReal := min (Ideal.ofBits .f32 1138753536#32) (max (Ideal.ofBits .f32 3286237184#32) x)
/-- The factor from powers of e to powers of two. -/
def lg : EReal := (((Real.log 2)⁻¹ : ℝ) : EReal)
/-- The exponent of the quantiser for a largest value `a`, which is 0 or 1. -/
def expo (a : EReal) : ℝ := if a = 0 then 0 else -8
/-- The scale of the quantiser, two to that exponent. -/
def scl (a : EReal) : ℝ := if a = 0 then 1 else 1 / 256
/-- Its inverse. -/
def inv (a : EReal) : ℝ := if a = 0 then 1 else 256

/-- The sums of weights of the first `n` key blocks, by residue of the position modulo 8. -/
def lsum (p : ℕ → Fin 512 → EReal) (n : ℕ) (s : Fin 8) (c : Fin 512) : EReal :=
  ∑ jb ∈ Finset.range n, ∑ u : Fin 16, p (128 * jb + 8 * u.val + s.val) c
/-- The weighted values of the first `n` key blocks. -/
def asum (V : Fin 256 → ℕ → EReal) (vs : ℕ → EReal) (p : ℕ → Fin 512 → EReal) (n : ℕ) (d : Fin 256) (c : Fin 512) : EReal :=
  ∑ jb ∈ Finset.range n, (∑ kk : Fin 128, V d (128 * jb + kk.val) * clip (p (128 * jb + kk.val) c)) * vs jb

namespace Pt
variable (P : Pt)

/-- The number of pairs of key blocks the kernel visits. -/
def nc : ℕ := (P.i + 2) / 2
/-- The dot product of a key and a query where the key is visible, else the least value. -/
def score (key : ℕ) (c : Fin 512) : EReal :=
  if key ≤ 128 * P.i + c.val % 128 then ∑ d, P.K key d * P.Q c d else ⊥
/-- The kernel's running maximum after `n` key blocks, by residue of the position modulo 8. -/
def mx (n : ℕ) (s : Fin 8) (c : Fin 512) : EReal :=
  (Finset.range n).sup fun jb => (Finset.univ.sup fun u : Fin 16 => P.score (128 * jb + 8 * u.val + s.val) c) * P.ks jb
/-- The kernel's maximum. -/
def km (c : Fin 512) : EReal := (Finset.univ.sup fun s : Fin 8 => P.mx (2 * P.nc) s c) * P.qr (grp c)
/-- The kernel's largest weight of a head. -/
def ka (g : Fin 4) : EReal := Finset.univ.sup fun r : Fin 128 => Ideal.exp (P.km (col g r) - P.km (col g r))
/-- What the kernel subtracts in the exponent. -/
def shift (c : Fin 512) : EReal := P.km c * lg + (expo (P.ka (grp c)) : EReal)
/-- What the kernel multiplies scores by, besides the scale of the key block. -/
def slope (c : Fin 512) : EReal := P.qr (grp c) * lg
end Pt

/-- A weight in the kernel's form, from any shift and slope. -/
def weight (P : Pt) (sh sl : Fin 512 → EReal) (key : ℕ) (c : Fin 512) : EReal :=
  Ideal.exp2 (P.score key c * (sl c * P.ks (key / 128)) - sh c)

/-- The kernel's last step, from any weights and scales. -/
def finish (P : Pt) (p : ℕ → Fin 512 → EReal) (sc : Fin 512 → EReal) (d : Fin 256) (c : Fin 512) : EReal :=
  asum P.V P.vs p (2 * P.nc) d c * Ideal.div (sc c) ((∑ s, lsum p (2 * P.nc) s c) * sc c)

namespace Pt
variable (P : Pt)

/-- What the kernel writes. -/
def kout (d : Fin 256) (c : Fin 512) : EReal :=
  finish P (weight P P.shift P.slope) (fun c => (scl (P.ka (grp c)) : EReal)) d c

/-- The reference's score. -/
def rs (key : ℕ) (c : Fin 512) : EReal :=
  if key ≤ 128 * P.i + c.val % 128 then (∑ d, P.K key d * P.Q c d) * P.qr (grp c) * P.ks (key / 128) else ⊥
/-- The reference's maximum. -/
def rm (c : Fin 512) : EReal := Finset.univ.sup fun key : Fin 4096 => P.rs key c
/-- The reference's weight before it is quantised. -/
def rp (key : ℕ) (c : Fin 512) : EReal := Ideal.exp (P.rs key c - P.rm c)
/-- The reference's largest weight of a head. -/
def ra (g : Fin 4) : EReal :=
  Finset.univ.sup fun r : Fin 128 => Finset.univ.sup fun key : Fin 4096 => max (P.rp key (col g r)) (-P.rp key (col g r))
/-- What the reference computes. -/
def rout (d : Fin 256) (c : Fin 512) : EReal :=
  (∑ jb : Fin 32, (∑ kk : Fin 128, clip (P.rp (128 * jb + kk) c * (inv (P.ra (grp c)) : EReal)) * P.V d (128 * jb + kk)) * P.vs jb)
    * Ideal.div (scl (P.ra (grp c)) : EReal) (∑ key : Fin 4096, P.rp key c)

end Pt

/-! ## Sums and maxima by blocks -/

theorem sum_range_mul {M : Type} [AddCommMonoid M] (a b : ℕ) (f : ℕ → M) :
    ∑ x ∈ Finset.range (b * a), f x = ∑ i ∈ Finset.range a, ∑ j ∈ Finset.range b, f (b * i + j) := by
  induction a with
  | zero => simp
  | succ a ih => rw [Nat.mul_succ, Finset.sum_range_add, ih, Finset.sum_range_succ]

/-- A positive factor comes out of a maximum. -/
theorem sup_mul {ι : Type} (s : Finset ι) (f : ι → EReal) (x : EReal) (hx : 0 < x) :
    s.sup f * x = s.sup fun j => f j * x :=
  Finset.comp_sup_eq_sup_comp_of_is_total (· * x) (fun _ _ h => mul_le_mul_of_nonneg_right h hx.le) (EReal.bot_mul_of_pos hx)

theorem clip_zero : clip 0 = 0 := by
  have h1 : (0 : EReal) ≤ Ideal.ofBits .f32 1138753536#32 := by
    simp [Ideal.ofBits, Ideal.ieee, -EReal.coe_mul]
  have h2 : Ideal.ofBits .f32 3286237184#32 ≤ (0 : EReal) := by
    simp [Ideal.ofBits, Ideal.ieee, -EReal.coe_mul]
  rw [clip, max_eq_right h2, min_eq_right h1]

theorem exp_coe (x : ℝ) : Ideal.exp (x : EReal) = (Real.exp x : EReal) := rfl
theorem exp2_coe (x : ℝ) : Ideal.exp2 (x : EReal) = ((2 : ℝ) ^ x : ℝ) := rfl
theorem exp_bot : Ideal.exp ⊥ = 0 := rfl
theorem exp2_bot : Ideal.exp2 ⊥ = 0 := rfl

/-- Two to a real multiple of the factor is a power of e. -/
theorem two_rpow_lg (x e : ℝ) : (2 : ℝ) ^ (x * (Real.log 2)⁻¹ - e) = Real.exp x * (2 : ℝ) ^ (-e) := by
  have h2 : Real.log 2 ≠ 0 := (Real.log_pos one_lt_two).ne'
  rw [sub_eq_add_neg, Real.rpow_add two_pos, Real.rpow_def_of_pos two_pos]
  congr 2
  field_simp

theorem inv_eq (a : EReal) : (2 : ℝ) ^ (-expo a) = inv a := by
  unfold expo inv
  split
  · simp
  · rw [neg_neg, show (8 : ℝ) = ((8 : ℕ) : ℝ) by norm_num, Real.rpow_natCast]; norm_num
theorem inv_mul_scl (a : EReal) : inv a * scl a = 1 := by
  unfold inv scl
  split <;> norm_num

namespace Pt
variable {P : Pt} (hks : ∀ j, 0 < P.ks j) (hqr : ∀ g, 0 < P.qr g) (hi : P.i < 32)

include hks hqr in
theorem rs_eq (key : ℕ) (c : Fin 512) : P.rs key c = P.score key c * P.ks (key / 128) * P.qr (grp c) := by
  unfold rs score
  split
  · exact mul_right_comm _ _ _
  · rw [EReal.bot_mul_of_pos (hks _), EReal.bot_mul_of_pos (hqr _)]

include hi in
theorem rs_le (key : ℕ) (c : Fin 512) : P.rs key c ≤ P.rm c := by
  by_cases h : key < 4096
  · exact Finset.le_sup (f := fun key : Fin 4096 => P.rs key c) (Finset.mem_univ ⟨key, h⟩)
  · unfold rs
    rw [if_neg (by omega)]
    exact bot_le

include hks hqr hi in
/-- The two maxima agree: a positive factor comes out of a maximum, and the blocks the kernel does not
visit are not visible. -/
theorem km_eq (c : Fin 512) : P.km c = P.rm c := by
  have hterm (s : Fin 8) (jb : ℕ) (u : Fin 16) :
      P.rs (128 * jb + 8 * u.val + s.val) c
        = P.score (128 * jb + 8 * u.val + s.val) c * P.ks jb * P.qr (grp c) := by
    rw [rs_eq hks hqr, show (128 * jb + 8 * u.val + s.val) / 128 = jb by have := u.isLt; have := s.isLt; omega]
  have hexp : P.km c = Finset.univ.sup fun s : Fin 8 => (Finset.range (2 * P.nc)).sup fun jb =>
      Finset.univ.sup fun u : Fin 16 => P.rs (128 * jb + 8 * u.val + s.val) c := by
    unfold km
    rw [sup_mul _ _ _ (hqr _)]
    refine Finset.sup_congr rfl fun s _ => ?_
    unfold mx
    rw [sup_mul _ _ _ (hqr _)]
    refine Finset.sup_congr rfl fun jb _ => ?_
    rw [sup_mul _ _ _ (hks _), sup_mul _ _ _ (hqr _)]
    exact Finset.sup_congr rfl fun u _ => (hterm s jb u).symm
  rw [hexp]
  apply le_antisymm
  · exact Finset.sup_le fun s _ => Finset.sup_le fun jb _ => Finset.sup_le fun u _ => rs_le hi _ _
  · refine Finset.sup_le fun key _ => ?_
    by_cases hv : key.val ≤ 128 * P.i + c.val % 128
    · have hjb : key.val / 128 ∈ Finset.range (2 * P.nc) := by
        rw [Finset.mem_range]; unfold nc; omega
      have e : 128 * (key.val / 128) + 8 * (key.val % 128 / 8) + key.val % 8 = key.val := by omega
      refine le_trans ?_ (Finset.le_sup (Finset.mem_univ (⟨key.val % 8, by omega⟩ : Fin 8)))
      refine le_trans ?_ (Finset.le_sup hjb)
      refine le_trans (le_of_eq ?_) (Finset.le_sup (Finset.mem_univ (⟨key.val % 128 / 8, by omega⟩ : Fin 16)))
      show P.rs key.val c = P.rs (128 * (key.val / 128) + 8 * (key.val % 128 / 8) + key.val % 8) c
      rw [e]
    · show P.rs key.val c ≤ _
      unfold rs
      rw [if_neg hv]
      exact bot_le

/-- The kernel's exponent is the reference's score times the factor. -/
theorem arg_eq (s qr ks : EReal) : s * (qr * lg * ks) = s * ks * qr * lg := by
  rw [mul_right_comm qr lg ks, ← mul_assoc, mul_comm qr ks, ← mul_assoc]

include hks hqr hi in
/-- The weights of a column are real, between 0 and 1; they are all 0, or one of them is 1. -/
theorem weights (c : Fin 512) : ∃ f : ℕ → ℝ, (∀ key, P.rp key c = (f key : EReal))
    ∧ (∀ key, weight P P.shift P.slope key c = ((f key * inv (P.ka (grp c)) : ℝ) : EReal))
    ∧ (∀ key, 0 ≤ f key ∧ f key ≤ 1)
    ∧ ((Ideal.exp (P.km c - P.km c) = 0 ∧ ∀ key, f key = 0)
      ∨ (Ideal.exp (P.km c - P.km c) = 1 ∧ ∃ key : Fin 4096, f key = 1)) := by
  have hlg : (0 : ℝ) < (Real.log 2)⁻¹ := inv_pos.mpr (Real.log_pos one_lt_two)
  have hlg' : (0 : EReal) < lg := EReal.coe_pos.mpr hlg
  have hw (key : ℕ) : weight P P.shift P.slope key c
      = Ideal.exp2 (P.rs key c * lg - (P.rm c * lg + (expo (P.ka (grp c)) : EReal))) := by
    unfold weight shift slope
    rw [arg_eq, ← rs_eq hks hqr, km_eq hks hqr hi]
  simp only [hw, km_eq hks hqr hi c]
  unfold rp
  have hle (key : ℕ) : P.rs key c ≤ P.rm c := rs_le hi key c
  induction hm : P.rm c using EReal.rec with
  | bot =>
    have hr (key : ℕ) : P.rs key c = ⊥ := le_bot_iff.mp (hm ▸ hle key)
    refine ⟨fun _ => 0, fun key => ?_, fun key => ?_, fun _ => ⟨le_rfl, zero_le_one⟩, .inl ⟨?_, fun _ => rfl⟩⟩
    · rw [hr, EReal.bot_sub, exp_bot, EReal.coe_zero]
    · rw [hr, zero_mul, EReal.bot_mul_of_pos hlg', EReal.bot_sub, exp2_bot, EReal.coe_zero]
    · rw [EReal.bot_sub, exp_bot]
  | top =>
    have ht (x : EReal) : x - ⊤ = ⊥ := by rw [sub_eq_add_neg, EReal.neg_top, EReal.add_bot]
    refine ⟨fun _ => 0, fun key => ?_, fun key => ?_, fun _ => ⟨le_rfl, zero_le_one⟩, .inl ⟨?_, fun _ => rfl⟩⟩
    · rw [ht, exp_bot, EReal.coe_zero]
    · rw [EReal.top_mul_of_pos hlg', EReal.top_add_coe, ht, exp2_bot, zero_mul, EReal.coe_zero]
    · rw [ht, exp_bot]
  | coe m =>
    have hreal (key : ℕ) : ∃ f : ℝ, Ideal.exp (P.rs key c - (m : EReal)) = (f : EReal)
        ∧ Ideal.exp2 (P.rs key c * lg - ((m : EReal) * lg + (expo (P.ka (grp c)) : EReal)))
          = ((f * inv (P.ka (grp c)) : ℝ) : EReal)
        ∧ (0 ≤ f ∧ f ≤ 1) ∧ (P.rs key c = (m : EReal) → f = 1) := by
      have hk := hm ▸ hle key
      induction hr : P.rs key c using EReal.rec with
      | bot =>
        refine ⟨0, ?_, ?_, ⟨le_rfl, zero_le_one⟩, fun h => absurd h (EReal.bot_ne_coe m)⟩
        · rw [EReal.bot_sub, exp_bot, EReal.coe_zero]
        · rw [zero_mul, EReal.bot_mul_of_pos hlg', EReal.bot_sub, exp2_bot, EReal.coe_zero]
      | top => rw [hr] at hk; exact absurd (top_le_iff.mp hk) (EReal.coe_ne_top m)
      | coe x =>
        rw [hr] at hk
        have hxm : x ≤ m := EReal.coe_le_coe_iff.mp hk
        refine ⟨Real.exp (x - m), ?_, ?_, ⟨(Real.exp_pos _).le, Real.exp_le_one_iff.mpr (by linarith)⟩, fun h => ?_⟩
        · rw [← EReal.coe_sub, exp_coe]
        · unfold lg
          rw [← EReal.coe_mul, ← EReal.coe_mul, ← EReal.coe_add, ← EReal.coe_sub, exp2_coe, ← inv_eq,
            ← two_rpow_lg]
          congr 2
          ring
        · rw [EReal.coe_eq_coe_iff.mp h, sub_self, Real.exp_zero]
    choose f h1 h2 h3 h4 using hreal
    refine ⟨f, h1, h2, h3, .inr ⟨?_, ?_⟩⟩
    · rw [← EReal.coe_sub, sub_self, exp_coe, Real.exp_zero, EReal.coe_one]
    · obtain ⟨key, _, hkey⟩ := Finset.exists_mem_eq_sup (Finset.univ : Finset (Fin 4096)) ⟨0, Finset.mem_univ _⟩
        (fun key : Fin 4096 => P.rs key c)
      exact ⟨key, h4 key (hkey.symm.trans hm)⟩

include hks hqr hi in
/-- The largest weights agree, and are 0 or 1. -/
theorem ka_eq (g : Fin 4) : P.ka g = P.ra g := by
  unfold ka ra
  refine Finset.sup_congr rfl fun r _ => ?_
  obtain ⟨f, h1, -, h3, h4⟩ := weights hks hqr hi (col g r)
  have habs (key : ℕ) : max (P.rp key (col g r)) (-P.rp key (col g r)) = (f key : EReal) := by
    rw [h1, ← EReal.coe_neg]
    exact max_eq_left (EReal.coe_le_coe_iff.mpr (by have := (h3 key).1; linarith))
  simp only [habs]
  rcases h4 with ⟨ha, hf⟩ | ⟨ha, key, hf⟩
  · rw [ha]
    refine le_antisymm ?_ (Finset.sup_le fun key _ => by rw [hf, EReal.coe_zero])
    refine le_trans (le_of_eq ?_) (Finset.le_sup (f := fun key : Fin 4096 => (f key : EReal)) (Finset.mem_univ 0))
    show (0 : EReal) = (f _ : EReal)
    rw [hf, EReal.coe_zero]
  · rw [ha]
    refine le_antisymm ?_ (Finset.sup_le fun key _ => by
      rw [← EReal.coe_one]; exact EReal.coe_le_coe_iff.mpr (h3 key).2)
    refine le_trans (le_of_eq ?_) (Finset.le_sup (f := fun key : Fin 4096 => (f key : EReal)) (Finset.mem_univ key))
    show (1 : EReal) = (f key : EReal)
    rw [hf, EReal.coe_one]

include hks hqr hi in
theorem ka_zero_or_one (g : Fin 4) : P.ka g = 0 ∨ P.ka g = 1 := by
  have hone (r : Fin 128) : Ideal.exp (P.km (col g r) - P.km (col g r)) = 0
      ∨ Ideal.exp (P.km (col g r) - P.km (col g r)) = 1 := by
    obtain ⟨f, -, -, -, h⟩ := weights hks hqr hi (col g r)
    exact h.imp And.left And.left
  obtain ⟨r, _, hr⟩ := Finset.exists_mem_eq_sup (Finset.univ : Finset (Fin 128)) ⟨0, Finset.mem_univ _⟩
    (fun r : Fin 128 => Ideal.exp (P.km (col g r) - P.km (col g r)))
  unfold ka
  rw [hr]
  exact hone r

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The sums by residue add up to the sum over the visited positions. -/
theorem sum_lsum (p : ℕ → Fin 512 → EReal) (n : ℕ) (c : Fin 512) :
    ∑ s, lsum p n s c = ∑ key ∈ Finset.range (128 * n), p key c := by
  rw [sum_range_mul n 128 (fun key => p key c)]
  unfold lsum
  rw [Finset.sum_comm]
  refine Finset.sum_congr rfl fun jb _ => ?_
  rw [show (128 : ℕ) = 8 * 16 from rfl, sum_range_mul 16 8 (fun j => p (8 * 16 * jb + j) c), Finset.sum_comm, Finset.sum_range]
  refine Finset.sum_congr rfl fun u _ => ?_
  rw [Finset.sum_range]
  exact Finset.sum_congr rfl fun s _ => by rw [add_assoc]

include hi in
/-- A position past the blocks the kernel visits has no weight. -/
theorem rp_zero (key : ℕ) (hk : 256 * P.nc ≤ key) (c : Fin 512) : P.rp key c = 0 := by
  unfold rp rs
  rw [if_neg (by unfold nc at hk; omega), EReal.bot_sub, exp_bot]

include hks hqr hi in
/-- The kernel's result is the reference's. -/
theorem kout_eq (d : Fin 256) (c : Fin 512) : P.kout d c = P.rout d c := by
  obtain ⟨f, h1, h2, h3, -⟩ := weights hks hqr hi c
  have hnc : 2 * P.nc ≤ 32 := by unfold nc; omega
  have hz (key : ℕ) (hk : 256 * P.nc ≤ key) : f key = 0 := by
    have := rp_zero hi key hk c
    rw [h1] at this
    exact EReal.coe_eq_zero.mp this
  unfold kout finish rout
  rw [← ka_eq hks hqr hi]
  congr 1
  · rw [Finset.sum_fin_eq_sum_range, asum]
    rw [← Finset.sum_subset (Finset.range_mono hnc)]
    · refine Finset.sum_congr rfl fun jb hjb => ?_
      have hjb' : jb < 32 := lt_of_lt_of_le (Finset.mem_range.mp hjb) hnc
      rw [dif_pos hjb']
      congr 1
      refine Finset.sum_congr rfl fun kk _ => ?_
      rw [h2, mul_comm, h1, ← EReal.coe_mul]
    · intro jb hjb hn
      rw [dif_pos (Finset.mem_range.mp hjb)]
      have hn' : 2 * P.nc ≤ jb := not_lt.mp fun h => hn (Finset.mem_range.mpr h)
      rw [Finset.sum_eq_zero, zero_mul]
      intro kk _
      show clip (P.rp (128 * jb + kk.val) c * _) * _ = 0
      rw [rp_zero hi _ (by omega), zero_mul, clip_zero, zero_mul]
  · congr 1
    rw [sum_lsum]
    simp only [h1, h2]
    rw [← coe_sum, ← coe_sum, ← EReal.coe_mul, Finset.sum_mul]
    congr 1
    have hterm (key : ℕ) : f key * inv (P.ka (grp c)) * scl (P.ka (grp c)) = f key := by
      rw [mul_assoc, inv_mul_scl, mul_one]
    simp only [hterm]
    rw [Finset.sum_fin_eq_sum_range]
    rw [← Finset.sum_subset (Finset.range_mono (show 128 * (2 * P.nc) ≤ 4096 by omega))]
    · exact Finset.sum_congr rfl fun key hkey => by
        rw [dif_pos (lt_of_lt_of_le (Finset.mem_range.mp hkey) (by omega))]
    · intro key hk hn
      rw [dif_pos (Finset.mem_range.mp hk)]
      exact hz key (by have := not_lt.mp fun h => hn (Finset.mem_range.mpr h); omega)

end Pt
end Cert.Value
end
-- ==== Proof.Value.KPay.lean ====
module

public import proofs.«01_k».proof.Proof.Gen.AttnIdeal.Skeleton
public import proofs.«01_k».proof.Proof.Value.Core
public import Idealize.ShloMosaic.Lib.Pointwise

/-! # What the kernel's vector operations compute, entry by entry

Each stored or carried value of the body, read at an index, as sums, maxima and products of the values it is
made from. -/

@[expose] public section
noncomputable section
namespace Cert.AttnIdeal.Value
open Gen Idealize.ShloMosaic
open Cert.Value (grp col clip lg)

theorem ofBits_negInf : Ideal.ofBits .f32 4286578688#32 = (⊥ : EReal) := by
  simp [Ideal.ofBits, Ideal.ieee]

/-- A maximum folded from the least value is the supremum. -/
theorem fold_max {n : ℕ} (f : Fin n → EReal) :
    Finset.univ.fold max (Ideal.ofBits .f32 4286578688#32) f = Finset.univ.sup f := by
  rw [ofBits_negInf]; rfl

/-! ## The first pass over the keys -/

theorem pay19_apply (v26 : FVec Ideal S512x256 .fp8e4m3) (v623 : Vec Ideal S1x256x256 .fp8e4m3) (r : Fin 256) (c : Fin 512) :
    k0_pay19 v26 v623 (ix2 r c) = ∑ d : Fin 256, v623 (ix3 0 r d) * v26 (ix2 c d) := by
  pointwise [k0_pay19, k0_pay18]

theorem pay20_apply (v26 : FVec Ideal S512x256 .fp8e4m3) (acc : FVec Ideal S8x512 .f32)
    (v623 : Vec Ideal S1x256x256 .fp8e4m3) (x y : EReal) (s : Fin 8) (c : Fin 512) :
    k0_pay20 v26 acc v623 x y (ix2 s c)
      = max (max (acc (ix2 s c)) ((Finset.univ.sup fun u : Fin 16 => ∑ d : Fin 256,
          v623 (ix3 0 ⟨u.val * 8 + s.val, by omega⟩ d) * v26 (ix2 c d)) * x))
        ((Finset.univ.sup fun u : Fin 16 => ∑ d : Fin 256,
          v623 (ix3 0 ⟨128 + (u.val * 8 + s.val), by omega⟩ d) * v26 (ix2 c d)) * y) := by
  pointwise [k0_pay20, k0_pay18]
  simp only [fold_max]

/-! ## The last block of the first pass, with its mask -/

theorem pay24_apply (a b : BitVec 32) (v26 : FVec Ideal S512x256 .fp8e4m3) (v50 : Vec Ideal S1x256x256 .fp8e4m3)
    (r : Fin 256) (c : Fin 512) :
    k0_pay24 a b v26 v50 (ix2 r c)
      = Scalar.select (IntOp.cmpi .sle (IntOp.addi (Scalar.muli (Scalar.subi b 1#32) 256#32) (BitVec.ofNat 32 r.val))
          (IntOp.addi (Scalar.muli a 128#32) (IntOp.andi (BitVec.ofNat 32 c.val) 127#32)))
        (∑ d : Fin 256, v50 (ix3 0 r d) * v26 (ix2 c d)) ⊥ := by
  pointwise [k0_pay24]
  rw [ofBits_negInf]

theorem pay25_eq (a b : BitVec 32) (v26 : FVec Ideal S512x256 .fp8e4m3) (v50 : Vec Ideal S1x256x256 .fp8e4m3)
    (r : Fin 256) (c : Fin 512) : k0_pay25 a b v26 v50 (ix2 r c) = k0_pay24 a b v26 v50 (ix2 r c) := by
  pointwise [k0_pay25]

theorem pay26_apply (a b : BitVec 32) (v26 : FVec Ideal S512x256 .fp8e4m3) (v35 : FVec Ideal S8x512 .f32)
    (v50 : Vec Ideal S1x256x256 .fp8e4m3) (x : EReal) (s : Fin 8) (c : Fin 512) :
    k0_pay26 a b v26 v35 v50 x (ix2 s c)
      = max (v35 (ix2 s c)) ((Finset.univ.sup fun u : Fin 16 =>
          k0_pay24 a b v26 v50 (ix2 ⟨u.val * 8 + s.val, by omega⟩ c)) * x) := by
  pointwise [k0_pay26]
  simp only [fold_max]

theorem pay27_apply (a b : BitVec 32) (v26 : FVec Ideal S512x256 .fp8e4m3) (v50 : Vec Ideal S1x256x256 .fp8e4m3)
    (u : Fin 16) (s : Fin 8) (c : Fin 512) :
    k0_pay27 a b v26 v50 (ix3 u s c) = k0_pay24 a b v26 v50 (ix2 ⟨128 + (u.val * 8 + s.val), by omega⟩ c) := by
  pointwise [k0_pay27]

theorem pay28_apply (v72 : FVec Ideal S8x512 .f32) (v74 : FVec Ideal S16x8x512 .f32) (x : EReal) (s : Fin 8) (c : Fin 512) :
    k0_pay28 v72 v74 x (ix2 s c) = max (v72 (ix2 s c)) ((Finset.univ.sup fun u : Fin 16 => v74 (ix3 u s c)) * x) := by
  pointwise [k0_pay28]
  simp only [fold_max]

/-- The mask's comparison of words is the comparison of the positions. -/
theorem mask_eq (i : ℕ) (hi : i < 32) (r : Fin 256) (c : Fin 512) :
    IntOp.cmpi .sle (IntOp.addi (Scalar.muli (Scalar.subi (BitVec.ofNat 32 ((i + 2) / 2)) 1#32) 256#32) (BitVec.ofNat 32 r.val))
        (IntOp.addi (Scalar.muli (BitVec.ofNat 32 i) 128#32) (IntOp.andi (BitVec.ofNat 32 c.val) 127#32))
      = BitVec.ofBool (decide (256 * ((i + 2) / 2 - 1) + r.val ≤ 128 * i + c.val % 128)) := by
  have h1 : ∀ i : Fin 32, Scalar.muli (Scalar.subi (BitVec.ofNat 32 ((i.val + 2) / 2)) 1#32) 256#32
      = BitVec.ofNat 32 (256 * ((i.val + 2) / 2 - 1)) := by decide +kernel
  have h2 : ∀ i : Fin 32, Scalar.muli (BitVec.ofNat 32 i.val) 128#32 = BitVec.ofNat 32 (128 * i.val) := by decide +kernel
  have h3 : ∀ c : Fin 512, IntOp.andi (BitVec.ofNat 32 c.val) 127#32 = BitVec.ofNat 32 (c.val % 128) := by decide +kernel
  have h1 := h1 ⟨i, hi⟩
  have h2 := h2 ⟨i, hi⟩
  dsimp only at h1 h2
  rw [h1, h2, h3]
  show BitVec.ofBool (BitVec.sle (BitVec.ofNat 32 _ + BitVec.ofNat 32 _) (BitVec.ofNat 32 _ + BitVec.ofNat 32 _)) = _
  rw [← BitVec.ofNat_add, ← BitVec.ofNat_add, BitVec.sle_eq_decide]
  have hs (n : ℕ) (hn : n < 2 ^ 31) : (BitVec.ofNat 32 n).toInt = n := by
    rw [BitVec.toInt_eq_toNat_of_lt (by rw [BitVec.toNat_ofNat]; omega), BitVec.toNat_ofNat]; omega
  have := r.isLt
  rw [hs _ (by omega), hs _ (by omega)]
  congr 1
  simp only [Nat.cast_le]

/-! ## The choice of a head by the column -/

/-- The head of each column, as the kernel computes it from an iota. -/
def hdv : IVec S1x512 32 :=
  have v118 : IVec S1x512 32 := iota .tc S1x512 32 [1] iota_S1x512_d1_w32
  have v120 : IVec S1x512 32 := divsi v118 (broadcast S1x512 128#32)
  have v123 : IVec S1x512 32 := extui 32 (cmpi .sgt v118 (broadcast S1x512 0#32)) natLt_1_32
  have v126 : IVec S1x512 32 := extui 32 (cmpi .slt v118 (broadcast S1x512 0#32)) natLt_1_32
  have v127 : IVec S1x512 32 := subi v123 v126
  let v132 : BitVec 32 := Scalar.subi (Scalar.extui (Scalar.cmpi .sgt 128#32 0#32)) (Scalar.extui (Scalar.cmpi .slt 128#32 0#32))
  have v134 : IVec S1x512 1 := cmpi .ne v127 (broadcast S1x512 v132)
  have v138 : IVec S1x512 1 := cmpi .ne (remsi v118 (broadcast S1x512 128#32)) (broadcast S1x512 0#32)
  select (andi v134 v138) (subi v120 (broadcast S1x512 1#32)) v120

theorem hdv_apply : ∀ c : Fin 512, hdv (ix2 0 c) = BitVec.ofNat 32 (c.val / 128) := by
  decide +kernel

/-- The selection of one of four vectors by the head of the column. -/
def sel4 (x0 x1 x2 x3 : FVec Ideal S1x512 .f32) : FVec Ideal S1x512 .f32 :=
  select (cmpi .eq hdv (broadcast S1x512 3#32)) x3
    (select (cmpi .eq hdv (broadcast S1x512 2#32)) x2
      (select (cmpi .eq hdv (broadcast S1x512 1#32)) x1 x0))

theorem sel4_apply (x0 x1 x2 x3 : FVec Ideal S1x512 .f32) (q : Fin 4 → EReal) (c : Fin 512)
    (h0 : x0 (ix2 0 c) = q 0) (h1 : x1 (ix2 0 c) = q 1) (h2 : x2 (ix2 0 c) = q 2) (h3 : x3 (ix2 0 c) = q 3) :
    sel4 x0 x1 x2 x3 (ix2 0 c) = q (grp c) := by
  show Scalar.select (IntOp.cmpi .eq (hdv (ix2 0 c)) 3#32) (x3 (ix2 0 c))
    (Scalar.select (IntOp.cmpi .eq (hdv (ix2 0 c)) 2#32) (x2 (ix2 0 c))
      (Scalar.select (IntOp.cmpi .eq (hdv (ix2 0 c)) 1#32) (x1 (ix2 0 c)) (x0 (ix2 0 c)))) = _
  rw [hdv_apply, h0, h1, h2, h3]
  have hc : c.val / 128 = (grp c).val := rfl
  rw [hc]
  generalize grp c = g
  fin_cases g <;> rfl

theorem pay32_apply (a b e g : EReal) (q : Fin 4 → EReal) (c : Fin 512) (h0 : a = q 0) (h1 : b = q 1) (h2 : e = q 2)
    (h3 : g * Ideal.ofBits .f32 0x3D800000#32 = q 3) :
    k0_pay32 (F := Ideal) a b e g (ix2 0 c) = q (grp c) :=
  sel4_apply (broadcast S1x512 a) (broadcast S1x512 b) (broadcast S1x512 e)
    (broadcast S1x512 (Scalar.mulf g (Scalar.ofBits .f32 0x3D800000#32))) q c h0 h1 h2 h3

theorem pay70_apply (a b e : FVec Ideal S1x1 .f32) (w : IVec S1x1 32) (q : Fin 4 → EReal) (c : Fin 512)
    (h0 : a (ix2 0 0) = q 0) (h1 : b (ix2 0 0) = q 1) (h2 : e (ix2 0 0) = q 2)
    (h3 : (bitcastToFloat .f32 (shli w (broadcast S1x1 23#32)) : FVec Ideal S1x1 .f32) (ix2 0 0) = q 3) :
    k0_pay70 (F := Ideal) a b e w (ix2 0 c) = q (grp c) := by
  refine sel4_apply
    (broadcastTo S1x512 (shapeCast S1x1 a shapeCasts_S1x1_S1x1) broadcasts_S1x1_S1x512)
    (broadcastTo S1x512 (shapeCast S1x1 b shapeCasts_S1x1_S1x1) broadcasts_S1x1_S1x512)
    (broadcastTo S1x512 (shapeCast S1x1 e shapeCasts_S1x1_S1x1) broadcasts_S1x1_S1x512)
    (broadcastTo S1x512 (shapeCast S1x1 (bitcastToFloat .f32 (shli w (broadcast S1x1 23#32))) shapeCasts_S1x1_S1x1) broadcasts_S1x1_S1x512)
    q c ?_ ?_ ?_ ?_
  · pointwise []; exact h0
  · pointwise []; exact h1
  · pointwise []; exact h2
  · rw [← h3]; generalize (bitcastToFloat .f32 (shli w (broadcast S1x1 23#32)) : FVec Ideal S1x1 .f32) = z
    pointwise []

theorem pay72_apply (a b e f : FVec Ideal S1x1 .f32) (v528 : FVec Ideal S1x512 .f32) (q : Fin 4 → EReal) (s : Fin 8) (c : Fin 512)
    (h0 : a (ix2 0 0) = q 0) (h1 : b (ix2 0 0) = q 1) (h2 : e (ix2 0 0) = q 2) (h3 : f (ix2 0 0) = q 3) :
    k0_pay72 (F := Ideal) a b e f v528 (ix2 s c) = v528 (ix2 0 c) + q (grp c) := by
  have h : sel4
      (broadcastTo S1x512 (shapeCast S1x1 a shapeCasts_S1x1_S1x1) broadcasts_S1x1_S1x512)
      (broadcastTo S1x512 (shapeCast S1x1 b shapeCasts_S1x1_S1x1) broadcasts_S1x1_S1x512)
      (broadcastTo S1x512 (shapeCast S1x1 e shapeCasts_S1x1_S1x1) broadcasts_S1x1_S1x512)
      (broadcastTo S1x512 (shapeCast S1x1 f shapeCasts_S1x1_S1x1) broadcasts_S1x1_S1x512) (ix2 0 c) = q (grp c) := by
    refine sel4_apply _ _ _ _ q c ?_ ?_ ?_ ?_
    · pointwise []; exact h0
    · pointwise []; exact h1
    · pointwise []; exact h2
    · pointwise []; exact h3
  rw [← h]
  generalize hz : sel4
      (broadcastTo S1x512 (shapeCast S1x1 a shapeCasts_S1x1_S1x1) broadcasts_S1x1_S1x512)
      (broadcastTo S1x512 (shapeCast S1x1 b shapeCasts_S1x1_S1x1) broadcasts_S1x1_S1x512)
      (broadcastTo S1x512 (shapeCast S1x1 e shapeCasts_S1x1_S1x1) broadcasts_S1x1_S1x512)
      (broadcastTo S1x512 (shapeCast S1x1 f shapeCasts_S1x1_S1x1) broadcasts_S1x1_S1x512) = z
  have e : k0_pay72 (F := Ideal) a b e f v528
      = broadcastTo S8x512 (shapeCast S1x512 (addf v528 z) shapeCasts_S1x512_S1x512) broadcasts_S1x512_S8x512 := by
    rw [← hz]; rfl
  rw [e]
  pointwise []

/-! ## The scale of a column, the maximum, and the factors of the exponent -/

theorem named_log2e (w : BitVec (FTy.bits .f32)) : Named.named (F := Ideal) κ "log2e" w = lg :=
  IdealRules.named_const.ideal_named_scalar _ _ _ _ rfl

theorem pay33_apply (v85 : FVec Ideal S8x512 .f32) (a b e g : EReal) (c : Fin 512) :
    k0_pay33 (F := Ideal) v85 a b e g (ix2 0 c)
      = (Finset.univ.sup fun s : Fin 8 => v85 (ix2 s c)) * k0_pay32 (F := Ideal) a b e g (ix2 0 c) := by
  pointwise [k0_pay33]
  simp only [fold_max]

theorem pay34_apply (v85 : FVec Ideal S8x512 .f32) (a b e g : EReal) (c : Fin 512) :
    k0_pay34 (F := Ideal) v85 a b e g (ix2 0 c)
      = Ideal.exp (k0_pay33 (F := Ideal) v85 a b e g (ix2 0 c) - k0_pay33 (F := Ideal) v85 a b e g (ix2 0 c)) := by
  pointwise [k0_pay34]

theorem pay71_apply (v158 : FVec Ideal S1x512 .f32) (c : Fin 512) : k0_pay71 v158 (ix2 0 c) = v158 (ix2 0 c) * lg := by
  pointwise [k0_pay71]
  rw [named_log2e]

theorem pay73_apply (v155 : FVec Ideal S1x512 .f32) (s : Fin 8) (c : Fin 512) : k0_pay73 v155 (ix2 s c) = v155 (ix2 0 c) * lg := by
  pointwise [k0_pay73]
  rw [named_log2e]

/-- The largest value of the first head, read from the vector of all four: as the later heads' values are. -/
theorem pay36_35 (v85 : FVec Ideal S8x512 .f32) (a b e g : EReal) (j : S1x1.Idx) :
    k0_pay36 (k0_pay35 (F := Ideal) v85 a b e g) j
      = Finset.univ.sup fun r : Fin 128 => k0_pay34 (F := Ideal) v85 a b e g (ix2 0 (col 0 r)) := by
  idx_vars j
  pointwise [k0_pay36, k0_pay35]
  simp only [fold_max]
  refine Finset.sup_congr rfl fun r _ => ?_
  congr 2; apply Fin.ext; simp [col]
theorem pay44_apply (v : FVec Ideal S1x512 .f32) (j : S1x1.Idx) :
    k0_pay44 v j = Finset.univ.sup fun r : Fin 128 => v (ix2 0 (col 1 r)) := by
  idx_vars j
  pointwise [k0_pay44]
  simp only [fold_max]
  refine Finset.sup_congr rfl fun r _ => ?_
  rfl
theorem pay54_apply (v : FVec Ideal S1x512 .f32) (j : S1x1.Idx) :
    k0_pay54 v j = Finset.univ.sup fun r : Fin 128 => v (ix2 0 (col 2 r)) := by
  idx_vars j
  pointwise [k0_pay54]
  simp only [fold_max]
  refine Finset.sup_congr rfl fun r _ => ?_
  rfl
theorem pay62_apply (v : FVec Ideal S1x512 .f32) (j : S1x1.Idx) :
    k0_pay62 v j = Finset.univ.sup fun r : Fin 128 => v (ix2 0 (col 3 r)) := by
  idx_vars j
  pointwise [k0_pay62]
  simp only [fold_max]
  refine Finset.sup_congr rfl fun r _ => ?_
  rfl

/-- The four heads' query rows stacked. -/
theorem pay16_apply (a b e g : Vec Ideal S1x128x256 .fp8e4m3) (q : Fin 512 → Fin 256 → EReal)
    (h0 : ∀ r d, a (ix3 0 r d) = q (col 0 r) d) (h1 : ∀ r d, b (ix3 0 r d) = q (col 1 r) d)
    (h2 : ∀ r d, e (ix3 0 r d) = q (col 2 r) d) (h3 : ∀ r d, g (ix3 0 r d) = q (col 3 r) d) (c : Fin 512) (d : Fin 256) :
    k0_pay16 a b e g (ix2 c d) = q c d := by
  pointwise [k0_pay16]
  by_cases g0 : c.val < 128
  · rw [dif_pos g0, h0]; congr 1; apply Fin.ext; simp [col]
  rw [dif_neg g0]
  by_cases g1 : c.val - 128 < 128
  · rw [dif_pos g1, h1]; congr 1; apply Fin.ext; simp [col]; omega
  rw [dif_neg g1]
  by_cases g2 : c.val - 128 - 128 < 128
  · rw [dif_pos g2, h2]; congr 1; apply Fin.ext; simp [col]; omega
  rw [dif_neg g2, h3]; congr 1; apply Fin.ext; simp [col]; omega

/-! ## The second pass -/

theorem pay3_apply (v573 v577 acc : FVec Ideal S8x512 .f32) (x : EReal) (v634 : Vec Ideal S128x512 .f32) (s : Fin 8) (c : Fin 512) :
    k0_pay3 v573 v577 acc x v634 (ix2 s c) = acc (ix2 s c)
      + ∑ u : Fin 16, Ideal.exp2 (v634 (ix2 ⟨u.val * 8 + s.val, by omega⟩ c) * (v577 (ix2 s c) * x) - v573 (ix2 s c)) := by
  pointwise [k0_pay3, k0_pay2]
  rfl

theorem pay7_apply (v573 v577 acc : FVec Ideal S8x512 .f32) (x : EReal) (v634 : Vec Ideal S128x512 .f32) (s : Fin 8) (c : Fin 512) :
    k0_pay7 v573 v577 acc x v634 (ix2 s c) = acc (ix2 s c)
      + ∑ u : Fin 16, Ideal.exp2 (v634 (ix2 ⟨u.val * 8 + s.val, by omega⟩ c) * (v577 (ix2 s c) * x) - v573 (ix2 s c)) := by
  pointwise [k0_pay7, k0_pay6]
  rfl

theorem pay4_apply (v573 v577 : FVec Ideal S8x512 .f32) (x : EReal) (v634 : Vec Ideal S128x512 .f32)
    (v652 : Vec Ideal S1x1x256x128 .fp8e4m3) (d : Fin 256) (c : Fin 512) :
    k0_pay4 v573 v577 x v634 v652 (ix2 d c) = ∑ k : Fin 128, v652 (ix4 0 0 d k)
      * clip (Ideal.exp2 (v634 (ix2 k c) * (v577 (ix2 ⟨k.val % 8, by omega⟩ c) * x) - v573 (ix2 ⟨k.val % 8, by omega⟩ c))) := by
  pointwise [k0_pay4, k0_pay2]
  rfl

theorem pay8_apply (v573 v577 : FVec Ideal S8x512 .f32) (x : EReal) (v634 : Vec Ideal S128x512 .f32)
    (v652 : Vec Ideal S1x1x256x128 .fp8e4m3) (d : Fin 256) (c : Fin 512) :
    k0_pay8 v573 v577 x v634 v652 (ix2 d c) = ∑ k : Fin 128, v652 (ix4 0 0 d k)
      * clip (Ideal.exp2 (v634 (ix2 k c) * (v577 (ix2 ⟨k.val % 8, by omega⟩ c) * x) - v573 (ix2 ⟨k.val % 8, by omega⟩ c))) := by
  pointwise [k0_pay8, k0_pay6]
  rfl

theorem pay5_apply (v654 : FVec Ideal S256x512 .f32) (v655 : Vec Ideal S256x512 .f32) (x : EReal) (d : Fin 256) (c : Fin 512) :
    k0_pay5 v654 v655 x (ix2 d c) = v655 (ix2 d c) + v654 (ix2 d c) * x := by
  pointwise [k0_pay5]

theorem pay76_apply (v654 : FVec Ideal S256x512 .f32) (v655 : Vec Ideal S256x512 .f32) (x : EReal) (d : Fin 256) (c : Fin 512) :
    k0_pay76 v654 v655 x (ix2 d c) = v655 (ix2 d c) + v654 (ix2 d c) * x := by
  pointwise [k0_pay76]

theorem pay74_apply (d : Fin 256) (c : Fin 512) : k0_pay74 (F := Ideal) (ix2 d c) = 0 := by
  pointwise [k0_pay74]

theorem pay75_apply (d : Fin 8) (c : Fin 512) : k0_pay75 (F := Ideal) (ix2 d c) = 0 := by
  pointwise [k0_pay75]

theorem pay17_apply (d : Fin 8) (c : Fin 512) : k0_pay17 (F := Ideal) (ix2 d c) = ⊥ := by
  pointwise [k0_pay17]
  exact ofBits_negInf

/-- The result of a head and a column before it is laid out. -/
theorem pay78_apply (v526 : FVec Ideal S1x512 .f32) (l : FVec Ideal S8x512 .f32) (a : Vec Ideal S256x512 .f32) (d : Fin 256) (c : Fin 512) :
    k0_pay78 v526 l a (ix2 d c) = a (ix2 d c) * Ideal.div (v526 (ix2 0 c)) ((∑ s : Fin 8, l (ix2 s c)) * v526 (ix2 0 c)) := by
  pointwise [k0_pay78]

theorem pay79_apply (v526 : FVec Ideal S1x512 .f32) (l : FVec Ideal S8x512 .f32) (a : Vec Ideal S256x512 .f32) (r : Fin 128) (d : Fin 256) :
    k0_pay79 v526 l a (ix3 0 r d) = k0_pay78 v526 l a (ix2 d (col 0 r)) := by
  pointwise [k0_pay79]
  congr 2; apply Fin.ext; simp [col]
theorem pay80_apply (v526 : FVec Ideal S1x512 .f32) (l : FVec Ideal S8x512 .f32) (a : Vec Ideal S256x512 .f32) (r : Fin 128) (d : Fin 256) :
    k0_pay80 v526 l a (ix3 0 r d) = k0_pay78 v526 l a (ix2 d (col 1 r)) := by
  pointwise [k0_pay80]
  rfl
theorem pay81_apply (v526 : FVec Ideal S1x512 .f32) (l : FVec Ideal S8x512 .f32) (a : Vec Ideal S256x512 .f32) (r : Fin 128) (d : Fin 256) :
    k0_pay81 v526 l a (ix3 0 r d) = k0_pay78 v526 l a (ix2 d (col 2 r)) := by
  pointwise [k0_pay81]
  rfl
theorem pay1_apply (v : FVec Ideal S256x512 .f32) (r : Fin 128) (d : Fin 256) :
    k0_pay1 v (ix3 0 r d) = v (ix2 d (col 3 r)) := by
  pointwise [k0_pay1]
  rfl

end Cert.AttnIdeal.Value
end
-- ==== Proof.Value.Expo.lean ====
module

public import proofs.«01_k».proof.Proof.Gen.AttnIdeal.Skeleton
public import proofs.«01_k».proof.Proof.Value.Core
public import Idealize.ShloMosaic.Lib.Pointwise

/-! # The kernel's quantiser exponent, and its choice of a head by column

The kernel finds the exponent field of a positive number by eight comparisons, from the highest bit
down.  The number is the largest weight of a head over 448, and that weight is 0 or 1. -/

@[expose] public section
noncomputable section
namespace Cert.AttnIdeal.Value
open Gen Idealize.ShloMosaic
open Cert.Value (grp col expo scl)

/-! ## Powers of two as words -/

/-- The word of exponent field `k` and no fraction is two to `k - 127`. -/
theorem ofBits_field (k : ℕ) (h0 : 0 < k) (h1 : k < 255) :
    Ideal.ofBits .f32 (BitVec.ofNat 32 k <<< 23) = (((2 : ℝ) ^ ((k : ℤ) - 127) : ℝ) : EReal) := by
  have hn : ∀ k : Fin 255, ((BitVec.ofNat 32 k.val <<< 23).extractLsb' 31 1 == 1#1) = false := by decide +kernel
  have he : ∀ k : Fin 255, ((BitVec.ofNat 32 k.val <<< 23).extractLsb' 23 8).toNat = k.val := by decide +kernel
  have hf : ∀ k : Fin 255, ((BitVec.ofNat 32 k.val <<< 23).extractLsb' 0 23).toNat = 0 := by decide +kernel
  have hn := hn ⟨k, h1⟩
  have he := he ⟨k, h1⟩
  have hf := hf ⟨k, h1⟩
  dsimp only at hn he hf
  generalize BitVec.ofNat 32 k <<< 23 = w at hn he hf
  simp only [Ideal.ofBits, Ideal.ieee, Nat.reduceAdd, hn, he, hf]
  rw [ if_neg (by omega), if_neg (by omega)]
  congr 1
  rw [show ((k : ℤ) - (2 ^ (8 - 1) - 1) - (23 : ℕ)) = ((k : ℤ) - 127) + (-23) by norm_num; ring, zpow_add₀ two_ne_zero]
  norm_num
  ring

/-- One over 448, as the kernel writes it. -/
def over448 : EReal := Ideal.ofBits .f32 0x3B124925#32
theorem over448_eq : over448 = (((2 ^ 23 + 0x124925 : ℝ) * (2 : ℝ) ^ (-32 : ℤ) : ℝ) : EReal) := by
  unfold over448
  simp [Ideal.ofBits, Ideal.ieee, -EReal.coe_mul]
  norm_num
theorem over448_pos : 0 < over448 := by
  rw [over448_eq]; exact EReal.coe_pos.mpr (by positivity)
/-- It lies between two to the -9 and two to the -8. -/
theorem field_le_over448 (k : ℕ) (h1 : k ≤ 118) : (((2 : ℝ) ^ ((k : ℤ) - 127) : ℝ) : EReal) ≤ over448 := by
  rw [over448_eq]
  refine EReal.coe_le_coe_iff.mpr (le_trans (zpow_le_zpow_right₀ one_le_two (show (k : ℤ) - 127 ≤ -9 by omega)) ?_)
  norm_num
theorem over448_lt_field (k : ℕ) (h1 : 119 ≤ k) : over448 < (((2 : ℝ) ^ ((k : ℤ) - 127) : ℝ) : EReal) := by
  rw [over448_eq]
  refine EReal.coe_lt_coe_iff.mpr (lt_of_lt_of_le ?_ (zpow_le_zpow_right₀ one_le_two (show (-8 : ℤ) ≤ (k : ℤ) - 127 by omega)))
  norm_num

/-! ## The search -/

/-- One step of the search: the field with the bit added, if the number reaches its power of two. -/
def stepV (y : FVec Ideal S1x1 .f32) (f : IVec S1x1 32) (b : BitVec 32) : IVec S1x1 32 :=
  select (cmpf .oge y (bitcastToFloat .f32 (shli (addi f (broadcast S1x1 b)) (broadcast S1x1 23#32)))) (addi f (broadcast S1x1 b)) f
/-- The field found. -/
def fieldV (y : FVec Ideal S1x1 .f32) : IVec S1x1 32 :=
  stepV y (stepV y (stepV y (stepV y (stepV y (stepV y (stepV y (stepV y (broadcast S1x1 0#32) 128#32) 64#32) 32#32) 16#32) 8#32) 4#32) 2#32) 1#32
/-- The number searched, from the largest weight. -/
def argV (a : FVec Ideal S1x1 .f32) : FVec Ideal S1x1 .f32 := absf (mulf a (broadcast S1x1 (Scalar.ofBits .f32 0x3B124925#32)))
/-- The exponent as an integer. -/
def expoV (a : FVec Ideal S1x1 .f32) : IVec S1x1 32 :=
  select (ori (ori (cmpi .eq (fieldV (argV a)) (broadcast S1x1 0#32)) (cmpi .eq (fieldV (argV a)) (broadcast S1x1 255#32)))
    (cmpf .oeq a (broadcast S1x1 (Scalar.ofBits .f32 0x00000000#32)))) (broadcast S1x1 0#32) (subi (fieldV (argV a)) (broadcast S1x1 126#32))
/-- The exponent as a float. -/
def expoF (a : FVec Ideal S1x1 .f32) : FVec Ideal S1x1 .f32 := sitofp .f32 (expoV a)
/-- The scale. -/
def scaleF (a : FVec Ideal S1x1 .f32) : FVec Ideal S1x1 .f32 :=
  bitcastToFloat .f32 (shli (addi (broadcast S1x1 127#32) (expoV a)) (broadcast S1x1 23#32))

theorem shl23 (k : ℕ) (h1 : k < 255) : IntOp.shli .vector (BitVec.ofNat 32 k) 23#32 = BitVec.ofNat 32 k <<< 23 := by
  have h : ∀ k : Fin 255, IntOp.shli .vector (BitVec.ofNat 32 k.val) 23#32 = BitVec.ofNat 32 k.val <<< 23 := by decide +kernel
  exact h ⟨k, h1⟩

theorem select_ofBool {α : Type} (p : Prop) [Decidable p] (x y : α) :
    Scalar.select (BitVec.ofBool (decide p)) x y = if p then x else y := by
  unfold Scalar.select
  by_cases h : p <;> simp [h]

theorem stepV_apply (y : FVec Ideal S1x1 .f32) (k b : ℕ) (h0 : 0 < k + b) (h1 : k + b < 255) (j : S1x1.Idx) :
    stepV y (broadcast S1x1 (BitVec.ofNat 32 k)) (BitVec.ofNat 32 b) j
      = if (((2 : ℝ) ^ (((k + b : ℕ) : ℤ) - 127) : ℝ) : EReal) ≤ y j then BitVec.ofNat 32 (k + b) else BitVec.ofNat 32 k := by
  rw [← ofBits_field _ h0 h1, ← shl23 _ h1, BitVec.ofNat_add]
  exact select_ofBool (Ideal.ofBits .f32 (IntOp.shli .vector (BitVec.ofNat 32 k + BitVec.ofNat 32 b) 23#32) ≤ y j) _ _

/-- The step keeps the bit where the number is one over 448 and the field is at most 118. -/
theorem stepV_keep (y : FVec Ideal S1x1 .f32) (hy : ∀ j, y j = over448) (k b : ℕ) (h0 : 0 < k + b) (h1 : k + b ≤ 118) :
    stepV y (broadcast S1x1 (BitVec.ofNat 32 k)) (BitVec.ofNat 32 b) = broadcast S1x1 (BitVec.ofNat 32 (k + b)) := by
  funext j
  rw [stepV_apply y k b h0 (by omega), hy, if_pos (field_le_over448 _ h1)]
  rfl
/-- The step drops the bit where the field would exceed 118. -/
theorem stepV_drop (y : FVec Ideal S1x1 .f32) (hy : ∀ j, y j = over448) (k b : ℕ) (h0 : 119 ≤ k + b) (h1 : k + b < 255) :
    stepV y (broadcast S1x1 (BitVec.ofNat 32 k)) (BitVec.ofNat 32 b) = broadcast S1x1 (BitVec.ofNat 32 k) := by
  funext j
  rw [stepV_apply y k b (by omega) h1, hy, if_neg (not_le.mpr (over448_lt_field _ h0))]
  rfl
/-- The step drops the bit where the number is 0. -/
theorem stepV_zero (y : FVec Ideal S1x1 .f32) (hy : ∀ j, y j = 0) (k b : ℕ) (h0 : 0 < k + b) (h1 : k + b < 255) :
    stepV y (broadcast S1x1 (BitVec.ofNat 32 k)) (BitVec.ofNat 32 b) = broadcast S1x1 (BitVec.ofNat 32 k) := by
  funext j
  rw [stepV_apply y k b h0 h1, hy, if_neg (not_le.mpr (EReal.coe_pos.mpr (by positivity)))]
  rfl

theorem fieldV_over448 (y : FVec Ideal S1x1 .f32) (hy : ∀ j, y j = over448) : fieldV y = broadcast S1x1 118#32 := by
  unfold fieldV
  rw [stepV_drop y hy 0 128 (by omega) (by omega), stepV_keep y hy 0 64 (by omega) (by omega),
    stepV_keep y hy (0 + 64) 32 (by omega) (by omega), stepV_keep y hy (0 + 64 + 32) 16 (by omega) (by omega),
    stepV_drop y hy (0 + 64 + 32 + 16) 8 (by omega) (by omega), stepV_keep y hy (0 + 64 + 32 + 16) 4 (by omega) (by omega),
    stepV_keep y hy (0 + 64 + 32 + 16 + 4) 2 (by omega) (by omega), stepV_drop y hy (0 + 64 + 32 + 16 + 4 + 2) 1 (by omega) (by omega)]
theorem fieldV_zero (y : FVec Ideal S1x1 .f32) (hy : ∀ j, y j = 0) : fieldV y = broadcast S1x1 0#32 := by
  unfold fieldV
  rw [stepV_zero y hy 0 128 (by omega) (by omega), stepV_zero y hy 0 64 (by omega) (by omega),
    stepV_zero y hy 0 32 (by omega) (by omega), stepV_zero y hy 0 16 (by omega) (by omega),
    stepV_zero y hy 0 8 (by omega) (by omega), stepV_zero y hy 0 4 (by omega) (by omega),
    stepV_zero y hy 0 2 (by omega) (by omega), stepV_zero y hy 0 1 (by omega) (by omega)]

theorem argV_apply (a : FVec Ideal S1x1 .f32) (j : S1x1.Idx) : argV a j = max (a j * over448) (-(a j * over448)) := rfl

/-- The exponent's word for a largest weight of 1, and of 0. -/
theorem expoV_one (a : FVec Ideal S1x1 .f32) (ha : ∀ j, a j = 1) : expoV a = broadcast S1x1 (-8#32) := by
  have hf := fieldV_over448 (argV a) fun j => by
    rw [argV_apply, ha, one_mul]
    exact max_eq_left (le_trans (EReal.neg_le_neg_iff.mpr over448_pos.le) (by rw [neg_zero]; exact over448_pos.le))
  unfold expoV
  rw [hf]
  funext j
  show Scalar.select (IntOp.ori (IntOp.ori (IntOp.cmpi .eq 118#32 0#32) (IntOp.cmpi .eq 118#32 255#32))
    (Ideal.cmp .oeq (a j) (Ideal.ofBits .f32 0x00000000#32))) 0#32 (IntOp.subi 118#32 126#32) = -8#32
  rw [ha, Ideal.ofBits_zero_f32]
  have h : Ideal.cmp .oeq (1 : EReal) 0 = 0#1 := by unfold Ideal.cmp; simp
  rw [h]
  decide
theorem expoV_zero (a : FVec Ideal S1x1 .f32) (ha : ∀ j, a j = 0) : expoV a = broadcast S1x1 0#32 := by
  have hf := fieldV_zero (argV a) fun j => by rw [argV_apply, ha, zero_mul, neg_zero, max_self]
  unfold expoV
  rw [hf]
  funext j
  show Scalar.select (IntOp.ori (IntOp.ori (IntOp.cmpi .eq 0#32 0#32) (IntOp.cmpi .eq 0#32 255#32))
    (Ideal.cmp .oeq (a j) (Ideal.ofBits .f32 0x00000000#32))) 0#32 (IntOp.subi 0#32 126#32) = 0#32
  rw [ha, Ideal.ofBits_zero_f32]
  have h : Ideal.cmp .oeq (0 : EReal) 0 = 1#1 := by unfold Ideal.cmp; simp
  rw [h]
  decide

/-- The exponent and the scale, for a largest weight of 0 or 1. -/
theorem expoF_eq (a : FVec Ideal S1x1 .f32) (w : EReal) (ha : ∀ j, a j = w) (hw : w = 0 ∨ w = 1) (j : S1x1.Idx) :
    expoF a j = (expo w : EReal) := by
  rcases hw with rfl | rfl
  · unfold expoF
    rw [expoV_zero a ha]
    show (((0#32).toInt : ℝ) : EReal) = _
    unfold expo; rw [if_pos rfl]; norm_num
  · unfold expoF
    rw [expoV_one a ha]
    show (((-8#32).toInt : ℝ) : EReal) = _
    unfold expo
    rw [if_neg one_ne_zero, show (-8#32).toInt = -8 by decide]; norm_num
theorem scale_word (w : BitVec 32) (j : S1x1.Idx) :
    bitcastToFloat (F := Ideal) .f32 (shli (addi (broadcast S1x1 127#32) (broadcast S1x1 w)) (broadcast S1x1 23#32)) j
      = Ideal.ofBits .f32 (IntOp.shli .vector (IntOp.addi 127#32 w) 23#32) := rfl
theorem scaleF_eq (a : FVec Ideal S1x1 .f32) (w : EReal) (ha : ∀ j, a j = w) (hw : w = 0 ∨ w = 1) (j : S1x1.Idx) :
    scaleF a j = (scl w : EReal) := by
  rcases hw with rfl | rfl
  · unfold scaleF
    rw [expoV_zero a ha]
    rw [scale_word, show IntOp.shli .vector (IntOp.addi 127#32 0#32) 23#32 = 127#32 <<< 23 by decide, ofBits_field 127 (by omega) (by omega)]
    unfold scl; rw [if_pos rfl]; norm_num
  · unfold scaleF
    rw [expoV_one a ha]
    rw [scale_word, show IntOp.shli .vector (IntOp.addi 127#32 (-8#32)) 23#32 = 119#32 <<< 23 by decide, ofBits_field 119 (by omega) (by omega)]
    unfold scl; rw [if_neg one_ne_zero]; norm_num

/-! ## The printed payloads are this search -/

theorem expo0 (x : FVec Ideal S1 .f32) : k0_pay43 (k0_pay36 x) (k0_pay37 x) (k0_pay38 x) (k0_pay39 x) (k0_pay40 x) = expoF (k0_pay36 x) := rfl
theorem scale0 (x : FVec Ideal S1 .f32) : k0_pay42 (k0_pay36 x) (k0_pay37 x) (k0_pay38 x) (k0_pay39 x) (k0_pay40 x) = scaleF (k0_pay36 x) := rfl
theorem expo1 (x : FVec Ideal S1x512 .f32) : k0_pay53 (k0_pay44 x) (k0_pay45 x) (k0_pay49 (k0_pay45 x) k0_pay46 k0_pay47 k0_pay48) (k0_pay50 (k0_pay45 x) k0_pay46 k0_pay47 k0_pay48) = expoF (k0_pay44 x) := rfl
theorem scale1 (x : FVec Ideal S1x512 .f32) : k0_pay52 (k0_pay44 x) (k0_pay45 x) (k0_pay49 (k0_pay45 x) k0_pay46 k0_pay47 k0_pay48) (k0_pay50 (k0_pay45 x) k0_pay46 k0_pay47 k0_pay48) = scaleF (k0_pay44 x) := rfl
theorem expo2 (x : FVec Ideal S1x512 .f32) : k0_pay61 (k0_pay54 x) (k0_pay57 (k0_pay55 x) (k0_pay56 x) 32#32) (k0_pay58 (k0_pay55 x) (k0_pay56 x) 32#32) = expoF (k0_pay54 x) := rfl
theorem scale2 (x : FVec Ideal S1x512 .f32) : k0_pay60 (k0_pay54 x) (k0_pay57 (k0_pay55 x) (k0_pay56 x) 32#32) (k0_pay58 (k0_pay55 x) (k0_pay56 x) 32#32) = scaleF (k0_pay54 x) := rfl
theorem expo3 (x : FVec Ideal S1x512 .f32) : k0_pay69 (F := Ideal) (k0_pay67 (k0_pay62 x) (k0_pay63 x) (k0_pay64 x) (k0_pay65 x) k0_pay66) = expoF (k0_pay62 x) := rfl
theorem scale3 (x : FVec Ideal S1x512 .f32) : bitcastToFloat .f32 (shli (k0_pay68 (k0_pay62 x) (k0_pay63 x) (k0_pay64 x) (k0_pay65 x) k0_pay66) (broadcast S1x1 23#32)) = scaleF (k0_pay62 x) := rfl

end Cert.AttnIdeal.Value
end
-- ==== Proof.Value.KRun.lean ====
module

public import proofs.«01_k».proof.Proof.AttnIdeal.Run
public import proofs.«01_k».proof.Proof.Value.KPay
public import proofs.«01_k».proof.Proof.Value.Expo
public import Idealize.ShloMosaic.Lib.WritesUnit

/-! # The body's run, with what it computes

The two loops over the key blocks by invariants that state the contents of the scratch and the carried values. -/

@[expose] public section

set_option maxRecDepth 16384

noncomputable section

namespace Cert.AttnIdeal.Value

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Value (Pt grp col clip lg lsum asum weight finish scl expo)

local notation "𝕄" => MT nD τ sig Unit (Elt Ideal) ℕ (UR sig nD τ) ℕ

/-! ## A point's inputs -/

/-- The six blocks a grid point works on, as the functions of positions the mathematics is stated over. -/
def ptOf (i : grid0.Coords) (x0 : Vec Ideal S8x1024 .f32) (x1 x2 : Vec Ideal S8x256 .f32) (x3 : Vec Ideal S1x128x1024 .fp8e4m3)
    (x4 : Vec Ideal S1x4096x256 .fp8e4m3) (x5 : Vec Ideal S1x1x256x4096 .fp8e4m3) : Pt where
  K key d := x4 (ix3 0 ⟨key % 4096, by omega⟩ d)
  Q c d := x3 (ix3 0 ⟨c.val % 128, by omega⟩ ⟨256 * (c.val / 128) + d.val, by omega⟩)
  V d key := x5 (ix4 0 0 d ⟨key % 4096, by omega⟩)
  ks jb := x1 (ix2 ⟨(i 0).val, (i 0).isLt⟩ ⟨(8 * jb + (i 1).val) % 256, by omega⟩)
  vs jb := x2 (ix2 ⟨(i 0).val, (i 0).isLt⟩ ⟨(8 * jb + (i 1).val) % 256, by omega⟩)
  qr g := x0 (ix2 ⟨(i 0).val, (i 0).isLt⟩ ⟨(32 * (i 2).val + 4 * (i 1).val + g.val) % 1024, by omega⟩) * Ideal.ofBits .f32 0x3D800000#32
  i := (i 2).val

/-! ## The number of trips -/

theorem trips1 (i : grid0.Coords) : (k0_t1_loop i).trips = ((i 2).val + 2) / 2 - 1 := by
  have h : ∀ n : Fin 32, ∀ i : grid0.Coords, (i 2).val = n.val → (k0_t1_loop i).trips = (n.val + 2) / 2 - 1 := by
    intro n i hn
    unfold k0_t1_loop
    rw [hn]
    clear hn
    revert n
    decide +kernel
  exact h ⟨(i 2).val, (i 2).isLt⟩ i rfl

theorem trips3 (i : grid0.Coords) : (k0_t3_loop i).trips = ((i 2).val + 2) / 2 := by
  have h : ∀ n : Fin 32, ∀ i : grid0.Coords, (i 2).val = n.val → (k0_t3_loop i).trips = (n.val + 2) / 2 := by
    intro n i hn
    unfold k0_t3_loop
    rw [hn]
    clear hn
    revert n
    decide +kernel
  exact h ⟨(i 2).val, (i 2).isLt⟩ i rfl

/-! ## Reads of whole buffers at a rectangle -/

theorem readAt_at {κ : Kind} {sp : Space} {s : Shape} {e : EltTy} (m : Memref sig κ sp s e) (hm : m.IsWhole)
    (x : s.Idx → Elt Ideal e) {off off' size : Fin s.rank → ℕ} {inb : ∀ a, off a + size a ≤ s.size a} (h : off = off')
    (y : (Rect.unit off size inb).shape.Idx) (z : s.Idx) (hz : ∀ a, (z a).val = off' a + (y a).val) :
    m.view.readAt (Elt Ideal) (Rect.unit off size inb).toLoadRect (hm.unread x) y = x z := by
  subst h
  rw [View.readAt_apply, hm.read_unread]
  congr 1
  funext a
  apply Fin.ext
  rw [hz a]
  show off a + 1 * (y a).val = _
  rw [Nat.one_mul]

theorem word_at {s0 s1 : ℕ} (m : Memref sig .tc .smem ⟨2, ![s0, s1]⟩ .f32) (hm : m.IsWhole) (x : Vec Ideal ⟨2, ![s0, s1]⟩ .f32)
    {off : Fin 2 → ℕ} {inb : ∀ a, off a + S1x1.size a ≤ (⟨2, ![s0, s1]⟩ : Shape).size a} (a b : ℕ) (h : off = ![a, b])
    (ha : a < s0) (hb : b < s1)
    (y : (Rect.unit (s := ⟨2, ![s0, s1]⟩) off S1x1.size inb).shape.Idx) :
    m.view.readAt (Elt Ideal) (Rect.unit (s := ⟨2, ![s0, s1]⟩) off S1x1.size inb).toLoadRect (hm.unread x) y = x (ix2 ⟨a, ha⟩ ⟨b, hb⟩) := by
  refine readAt_at m hm x h y _ fun k => ?_
  have h0 : (y 0).val = 0 := by have := (y 0).isLt; exact Nat.lt_one_iff.mp this
  have h1 : (y 1).val = 0 := by have := (y 1).isLt; exact Nat.lt_one_iff.mp this
  match k with
  | ⟨0, _⟩ => show a = a + (y 0).val; omega
  | ⟨1, _⟩ => show b = b + (y 1).val; omega

/-! ## The running maximum and sums, a block further -/

theorem mx_succ (P : Pt) (n : ℕ) (s : Fin 8) (c : Fin 512) :
    P.mx (n + 1) s c = max (P.mx n s c) ((Finset.univ.sup fun u : Fin 16 => P.score (128 * n + 8 * u.val + s.val) c) * P.ks n) := by
  unfold Pt.mx
  rw [Finset.range_add_one, Finset.sup_insert, sup_comm]

theorem lsum_succ (p : ℕ → Fin 512 → EReal) (n : ℕ) (s : Fin 8) (c : Fin 512) :
    lsum p (n + 1) s c = lsum p n s c + ∑ u : Fin 16, p (128 * n + 8 * u.val + s.val) c :=
  Finset.sum_range_succ _ _

theorem asum_succ (V : Fin 256 → ℕ → EReal) (vs : ℕ → EReal) (p : ℕ → Fin 512 → EReal) (n : ℕ) (d : Fin 256) (c : Fin 512) :
    asum V vs p (n + 1) d c
      = asum V vs p n d c + (∑ kk : Fin 128, V d (128 * n + kk.val) * clip (p (128 * n + kk.val) c)) * vs n :=
  Finset.sum_range_succ _ _

section
variable (i : grid0.Coords)
  (x0 : Vec Ideal S8x1024 .f32) (x1 x2 : Vec Ideal S8x256 .f32) (x3 : Vec Ideal S1x128x1024 .fp8e4m3)
  (x4 : Vec Ideal S1x4096x256 .fp8e4m3) (x5 : Vec Ideal S1x1x256x4096 .fp8e4m3)

/-- A block of keys loaded from `o` on. -/
theorem key_at (m : Memref sig .tc .vmem S1x4096x256 .fp8e4m3) (hm : m.IsWhole) {off : Fin 3 → ℕ}
    {inb : ∀ a, off a + S1x256x256.size a ≤ S1x4096x256.size a} (o : ℕ) (h : off = ![0, o, 0]) (ho : o + 256 ≤ 4096)
    (r : Fin 256) (d : Fin 256) :
    m.view.readAt (Elt Ideal) (Rect.unit (s := S1x4096x256) off S1x256x256.size inb).toLoadRect (hm.unread x4) (ix3 0 r d)
      = (ptOf i x0 x1 x2 x3 x4 x5).K (o + r.val) d := by
  refine readAt_at m hm x4 h _ _ fun k => ?_
  match k with
  | ⟨0, _⟩ => rfl
  | ⟨1, _⟩ => show (o + r.val) % 4096 = o + r.val; exact Nat.mod_eq_of_lt (by have := r.isLt; omega)
  | ⟨2, _⟩ => show d.val = 0 + d.val; omega

/-- A block of values loaded from `o` on. -/
theorem val_at (m : Memref sig .tc .vmem S1x1x256x4096 .fp8e4m3) (hm : m.IsWhole) {off : Fin 4 → ℕ}
    {inb : ∀ a, off a + S1x1x256x128.size a ≤ S1x1x256x4096.size a} (o : ℕ) (h : off = ![0, 0, 0, o]) (ho : o + 128 ≤ 4096)
    (d : Fin 256) (r : Fin 128) :
    m.view.readAt (Elt Ideal) (Rect.unit (s := S1x1x256x4096) off S1x1x256x128.size inb).toLoadRect (hm.unread x5) (ix4 0 0 d r)
      = (ptOf i x0 x1 x2 x3 x4 x5).V d (o + r.val) := by
  refine readAt_at m hm x5 h _ _ fun k => ?_
  match k with
  | ⟨0, _⟩ => rfl
  | ⟨1, _⟩ => rfl
  | ⟨2, _⟩ => show d.val = 0 + d.val; omega
  | ⟨3, _⟩ => show (o + r.val) % 4096 = o + r.val; exact Nat.mod_eq_of_lt (by have := r.isLt; omega)

/-- The scale of a key block. -/
theorem ks_at (m : Memref sig .tc .smem S8x256 .f32) (hm : m.IsWhole) {off : Fin 2 → ℕ}
    {inb : ∀ a, off a + S1x1.size a ≤ S8x256.size a} (jb b : ℕ) (h : off = ![(i 0).val, b]) (hb : b = 8 * jb + (i 1).val)
    (hj : jb < 32) (y : (Rect.unit (s := S8x256) off S1x1.size inb).shape.Idx) :
    m.view.readAt (Elt Ideal) (Rect.unit (s := S8x256) off S1x1.size inb).toLoadRect (hm.unread x1) y
      = (ptOf i x0 x1 x2 x3 x4 x5).ks jb := by
  have h1 : (i 1).val < 8 := (i 1).isLt
  rw [word_at m hm x1 (i 0).val b h (i 0).isLt (by omega) y]
  show _ = x1 (ix2 _ _)
  congr 2
  apply Fin.ext
  show b = (8 * jb + (i 1).val) % 256
  omega

theorem vs_at (m : Memref sig .tc .smem S8x256 .f32) (hm : m.IsWhole) {off : Fin 2 → ℕ}
    {inb : ∀ a, off a + S1x1.size a ≤ S8x256.size a} (jb b : ℕ) (h : off = ![(i 0).val, b]) (hb : b = 8 * jb + (i 1).val)
    (hj : jb < 32) (y : (Rect.unit (s := S8x256) off S1x1.size inb).shape.Idx) :
    m.view.readAt (Elt Ideal) (Rect.unit (s := S8x256) off S1x1.size inb).toLoadRect (hm.unread x2) y
      = (ptOf i x0 x1 x2 x3 x4 x5).vs jb := by
  have h1 : (i 1).val < 8 := (i 1).isLt
  rw [word_at m hm x2 (i 0).val b h (i 0).isLt (by omega) y]
  show _ = x2 (ix2 _ _)
  congr 2
  apply Fin.ext
  show b = (8 * jb + (i 1).val) % 256
  omega

theorem qr_at (m : Memref sig .tc .smem S8x1024 .f32) (hm : m.IsWhole) {off : Fin 2 → ℕ}
    {inb : ∀ a, off a + S1x1.size a ≤ S8x1024.size a} (g : Fin 4) (h : off = ![(i 0).val, 32 * (i 2).val + 4 * (i 1).val + g.val])
    (y : (Rect.unit (s := S8x1024) off S1x1.size inb).shape.Idx) :
    m.view.readAt (Elt Ideal) (Rect.unit (s := S8x1024) off S1x1.size inb).toLoadRect (hm.unread x0) y * Ideal.ofBits .f32 0x3D800000#32
      = (ptOf i x0 x1 x2 x3 x4 x5).qr g := by
  have h1 : (i 1).val < 8 := (i 1).isLt
  have h2 : (i 2).val < 32 := (i 2).isLt
  have := g.isLt
  rw [word_at m hm x0 (i 0).val _ h (i 0).isLt (by omega) y]
  show _ = x0 (ix2 _ _) * _
  congr 3
  apply Fin.ext
  exact (Nat.mod_eq_of_lt (by omega)).symm

/-- The score of a key that is visible. -/
theorem score_sum (key : ℕ) (col : Fin 512) (h : key ≤ 128 * (i 2).val) :
    (ptOf i x0 x1 x2 x3 x4 x5).score key col
      = ∑ d, (ptOf i x0 x1 x2 x3 x4 x5).K key d * (ptOf i x0 x1 x2 x3 x4 x5).Q col d :=
  if_pos (Nat.le_add_right_of_le h)

end

section
variable (c : Dev nD) (E : Set ℕ) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole)
  (arg0 arg1 arg2 v17 : BitVec 32)
  (x0 : Vec Ideal S8x1024 .f32) (x1 x2 : Vec Ideal S8x256 .f32) (x3 : Vec Ideal S1x128x1024 .fp8e4m3)
  (x4 : Vec Ideal S1x4096x256 .fp8e4m3) (x5 : Vec Ideal S1x1x256x4096 .fp8e4m3)

/-- What a trip of the first pass stores. -/
theorem trip1_scores (v26 : FVec Ideal S512x256 .fp8e4m3) (hQ : ∀ c d, v26 (ix2 c d) = (ptOf i x0 x1 x2 x3 x4 x5).Q c d)
    (k : Fin (k0_t1_loop i).trips) (f : BufTy.Contents (Elt Ideal) arg10.view.ty)
    (hf : ∀ (key : Fin 4096) (col : Fin 512), key.val < 256 * k.val →
            arg10.view.read (Elt Ideal) f (ix2 key col) = (ptOf i x0 x1 x2 x3 x4 x5).score key.val col)
    (key : Fin 4096) (col : Fin 512) (hkey : key.val < 256 * (k.val + 1)) :
    arg10.view.read (Elt Ideal) (arg10.view.writes (Elt Ideal) f
        [⟨Rect.unit (s := S4096x512) (k0_off2 i k) S256x512.size (k0_off2_inb i k), k0_pay19 v26
            (arg7.view.readAt (Elt Ideal) (Rect.unit (s := S1x4096x256) (k0_off1 i k) S1x256x256.size (k0_off1_inb i k)).toLoadRect
              (harg7.unread x4))⟩]) (ix2 key col)
      = (ptOf i x0 x1 x2 x3 x4 x5).score key.val col := by
  have h2 : (i 2).val < 32 := (i 2).isLt
  have hk : k.val < ((i 2).val + 2) / 2 - 1 := by rw [← trips1]; exact k.isLt
  by_cases hlt : key.val < 256 * k.val
  · refine (View.read_writes_cons_rows_of_not_mem (W := 256) arg10.view f _ _ _ (ix2 key col) (k0_off2_eq i k) rfl (Or.inl hlt)).trans ?_
    exact hf key col hlt
  · have hr : key.val - 256 * k.val < 256 := by omega
    refine (View.read_writes_cons_rows_of_mem arg10.view f _ _ _ (ix2 key col)
      (ix2 (⟨key.val - 256 * k.val, hr⟩ : Fin 256) col) (k0_off2_eq i k) ?_ rfl).trans ?_
    · show key.val = 256 * k.val + (key.val - 256 * k.val)
      omega
    · rw [pay19_apply, score_sum i x0 x1 x2 x3 x4 x5 _ _ (by omega)]
      refine Finset.sum_congr rfl fun d _ => ?_
      rw [key_at i x0 x1 x2 x3 x4 x5 arg7 harg7 (256 * k.val) (k0_off1_eq i k) (by omega), hQ]
      have e : 256 * k.val + (key.val - 256 * k.val) = key.val := by omega
      show Pt.K _ (256 * k.val + (key.val - 256 * k.val)) d * _ = _
      rw [e]

/-- The running maximum after a trip of the first pass. -/
theorem trip1_max (v26 : FVec Ideal S512x256 .fp8e4m3) (hQ : ∀ c d, v26 (ix2 c d) = (ptOf i x0 x1 x2 x3 x4 x5).Q c d)
    (k : Fin (k0_t1_loop i).trips) (acc : FVec Ideal S8x512 .f32) (h0 h1)
    (hacc : ∀ (s : Fin 8) (col : Fin 512), acc (ix2 s col) = (ptOf i x0 x1 x2 x3 x4 x5).mx (2 * k.val) s col)
    (s : Fin 8) (col : Fin 512) :
    k0_pay20 v26 acc
        (arg7.view.readAt (Elt Ideal) (Rect.unit (s := S1x4096x256) (k0_off1 i k) S1x256x256.size (k0_off1_inb i k)).toLoadRect
          (harg7.unread x4))
        (arg4.view.readAt (Elt Ideal) (Rect.unit (s := S8x256) (k0_off3 i k 0#32) S1x1.size (k0_off3_inb i k 0)).toLoadRect
          (harg4.unread x1) (Shape.Idx.first h0))
        (arg4.view.readAt (Elt Ideal) (Rect.unit (s := S8x256) (k0_off3 i k 1#32) S1x1.size (k0_off3_inb i k 1)).toLoadRect
          (harg4.unread x1) (Shape.Idx.first h1)) (ix2 s col)
      = (ptOf i x0 x1 x2 x3 x4 x5).mx (2 * (k.val + 1)) s col := by
  have h2 : (i 2).val < 32 := (i 2).isLt
  have hk : k.val < ((i 2).val + 2) / 2 - 1 := by rw [← trips1]; exact k.isLt
  have hs := s.isLt
  have e0 := ks_at i x0 x1 x2 x3 x4 x5 arg4 harg4 (inb := k0_off3_inb i k 0) (2 * k.val) _ (k0_off3_eq i k 0)
    (by show 16 * k.val + 8 * 0 + (i 1).val = _; omega) (by omega) (Shape.Idx.first h0)
  have e1 := ks_at i x0 x1 x2 x3 x4 x5 arg4 harg4 (inb := k0_off3_inb i k 1) (2 * k.val + 1) _ (k0_off3_eq i k 1)
    (by show 16 * k.val + 8 * 1 + (i 1).val = _; omega) (by omega) (Shape.Idx.first h1)
  have key (r : Fin 256) (n : ℕ) (hn : 256 * k.val + r.val = n) : (∑ d : Fin 256,
      arg7.view.readAt (Elt Ideal) (Rect.unit (s := S1x4096x256) (k0_off1 i k) S1x256x256.size (k0_off1_inb i k)).toLoadRect
          (harg7.unread x4) (ix3 0 r d) * v26 (ix2 col d)) = (ptOf i x0 x1 x2 x3 x4 x5).score n col := by
    have := r.isLt
    rw [score_sum i x0 x1 x2 x3 x4 x5 _ _ (by omega), ← hn]
    refine Finset.sum_congr rfl fun d _ => ?_
    rw [key_at i x0 x1 x2 x3 x4 x5 arg7 harg7 (256 * k.val) (k0_off1_eq i k) (by omega), hQ]
  rw [pay20_apply, hacc, show 2 * (k.val + 1) = 2 * k.val + 1 + 1 by omega, mx_succ, mx_succ]
  refine congrArg₂ max (congrArg₂ max rfl (congrArg₂ (· * ·) ?_ e0)) (congrArg₂ (· * ·) ?_ e1)
  · refine Finset.sup_congr rfl fun u _ => key _ _ ?_
    show 256 * k.val + (u.val * 8 + s.val) = _
    omega
  · refine Finset.sup_congr rfl fun u _ => key _ _ ?_
    show 256 * k.val + (128 + (u.val * 8 + s.val)) = _
    omega

/-- The first pass: before trip `k` the scratch holds the scores of the first `256 k` keys, and the carried value is
    the running maximum of those blocks. -/
@[instance_reducible] def loopV1 (v26 : FVec Ideal S512x256 .fp8e4m3) (v28 : FVec Ideal S8x512 .f32) (c0_i32_14 v32 : BitVec 32)
    (init : FVec Ideal S8x512 .f32)
    (hQ : ∀ c d, v26 (ix2 c d) = (ptOf i x0 x1 x2 x3 x4 x5).Q c d) :
    Idealize.ShloMosaic.LoopInv (M := MT nD τ sig Unit (Elt Ideal) ℕ (UR sig nD τ) ℕ) Idealize.ShloMosaic.frame (wpE defs₀ Variants.none (c : Thread nD τ) none) E
      (k0_t1_loop i).lb (k0_t1_loop i).ub (k0_t1_loop i).st (k0_t1_ok i) init (k0_t1_body (F := Ideal) i arg3 harg3 arg4 harg4 arg5 harg5 arg6 harg6 arg7 harg7 arg8 harg8 arg9 harg9 arg10 harg10 arg11 harg11 arg0 arg1 arg2 v17 v26 v28 c0_i32_14 v32) where
  inv k acc := iprop((arg4.view.loc (c : Thread nD τ) ↦[arg4.view.set]{fullShare} harg4.unread x1)
    ∗ (arg7.view.loc (c : Thread nD τ) ↦[arg7.view.set]{fullShare} harg7.unread x4)
    ∗ (∃ f, (arg10.view.loc (c : Thread nD τ) ↦[arg10.view.set]{fullShare} f)
        ∗ ⌜∀ (key : Fin 4096) (col : Fin 512), key.val < 256 * k →
            arg10.view.read (Elt Ideal) f (ix2 key col) = (ptOf i x0 x1 x2 x3 x4 x5).score key.val col⌝)
    ∗ ⌜∀ (s : Fin 8) (col : Fin 512), acc (ix2 s col) = (ptOf i x0 x1 x2 x3 x4 x5).mx (2 * k) s col⌝)
  step k acc := by
    iintro ⟨H4, H7, ⟨%f, H10, %hf⟩, %hacc⟩
    unfold k0_t1_body
    sl_exec
    sl_step
    isplitl [H4]; · iexact H4
    isplitl [H7]; · iexact H7
    isplitl [H10]
    · iexists _; isplitl [H10]; · iexact H10
      ipureintro
      exact trip1_scores i arg7 harg7 arg10 x0 x1 x2 x3 x4 x5 v26 hQ k f hf
    ipureintro
    exact trip1_max i arg4 harg4 arg7 harg7 x0 x1 x2 x3 x4 x5 v26 hQ k acc _ _ hacc

/-- A block of the scratch loaded from `o` on. -/
theorem score_at (f10 : BufTy.Contents (Elt Ideal) arg10.view.ty) (n : ℕ)
    (h10 : ∀ (key : Fin 4096) (col : Fin 512), key.val < n →
            arg10.view.read (Elt Ideal) f10 (ix2 key col) = (ptOf i x0 x1 x2 x3 x4 x5).score key.val col)
    {off : Fin 2 → ℕ} {inb : ∀ a, off a + S128x512.size a ≤ S4096x512.size a} (o : ℕ) (h : off = ![o, 0]) (ho : o + 128 ≤ n)
    (hn : n ≤ 4096) (r : Fin 128) (col : Fin 512) :
    arg10.view.readAt (Elt Ideal) (Rect.unit (s := S4096x512) off S128x512.size inb).toLoadRect f10 (ix2 r col)
      = (ptOf i x0 x1 x2 x3 x4 x5).score (o + r.val) col := by
  subst h
  have hr := r.isLt
  rw [View.readAt_apply, ← h10 ⟨o + r.val, by omega⟩ col (by show o + r.val < n; omega)]
  congr 1
  funext a
  apply Fin.ext
  match a with
  | ⟨0, _⟩ => show o + 1 * r.val = o + r.val; omega
  | ⟨1, _⟩ => show 0 + 1 * col.val = col.val; omega

/-- The loads of a trip of the second pass, as entries of the point. -/
structure Trip3 (i : grid0.Coords) (P : Pt) (sh sl : Fin 512 → EReal) (v573 v577 : FVec Ideal S8x512 .f32) (n : ℕ)
    (ks vs : EReal) (sc : Vec Ideal S128x512 .f32) (v : Vec Ideal S1x1x256x128 .fp8e4m3) : Prop where
  h573 : ∀ s c, v573 (ix2 s c) = sh c
  h577 : ∀ s c, v577 (ix2 s c) = sl c
  hks : ks = P.ks n
  hvs : vs = P.vs n
  hsc : ∀ r c, sc (ix2 r c) = P.score (128 * n + r.val) c
  hv : ∀ d r, v (ix4 0 0 d r) = P.V d (128 * n + r.val)

variable {i} in
theorem Trip3.lsum3 {P : Pt} {sh sl v573 v577 n ks vs sc v} (t : Trip3 i P sh sl v573 v577 n ks vs sc v)
    (acc : FVec Ideal S8x512 .f32) (s : Fin 8) (c : Fin 512) (h : acc (ix2 s c) = lsum (weight P sh sl) n s c) :
    k0_pay3 v573 v577 acc ks sc (ix2 s c) = lsum (weight P sh sl) (n + 1) s c := by
  rw [pay3_apply, lsum_succ, h]
  congr 1
  refine Finset.sum_congr rfl fun u _ => ?_
  have hu := u.isLt
  have hs := s.isLt
  rw [t.hsc, t.h577, t.h573, t.hks]
  have e : (128 * n + 8 * u.val + s.val) / 128 = n := by omega
  unfold weight
  rw [e]
  congr 3
  show P.score (128 * n + (u.val * 8 + s.val)) c = _
  congr 1
  omega

variable {i} in
theorem Trip3.asum4 {P : Pt} {sh sl v573 v577 n ks vs sc v} (t : Trip3 i P sh sl v573 v577 n ks vs sc v)
    (acc : Vec Ideal S256x512 .f32) (d : Fin 256) (c : Fin 512) (h : acc (ix2 d c) = asum P.V P.vs (weight P sh sl) n d c) :
    k0_pay5 (k0_pay4 v573 v577 ks sc v) acc vs (ix2 d c) = asum P.V P.vs (weight P sh sl) (n + 1) d c := by
  rw [pay5_apply, pay4_apply, asum_succ, h, t.hvs]
  congr 2
  refine Finset.sum_congr rfl fun u _ => ?_
  have hu := u.isLt
  rw [t.hsc, t.h577, t.h573, t.hks, t.hv]
  have e : (128 * n + u.val) / 128 = n := by omega
  unfold weight
  rw [e]

theorem trip3 (v573 v577 : FVec Ideal S8x512 .f32)
    (sh sl : Fin 512 → EReal) (h573 : ∀ s c, v573 (ix2 s c) = sh c) (h577 : ∀ s c, v577 (ix2 s c) = sl c)
    (f10 : BufTy.Contents (Elt Ideal) arg10.view.ty)
    (h10 : ∀ (key : Fin 4096) (col : Fin 512), key.val < 256 * (((i 2).val + 2) / 2) →
            arg10.view.read (Elt Ideal) f10 (ix2 key col) = (ptOf i x0 x1 x2 x3 x4 x5).score key.val col)
    (k : Fin (k0_t3_loop i).trips) (r : Fin 2) :
    Trip3 i (ptOf i x0 x1 x2 x3 x4 x5) sh sl v573 v577 (2 * k.val + r.val)
      (arg4.view.readAt (Elt Ideal) (Rect.unit (s := S8x256) (k0_off11 i k (BitVec.ofNat 32 r.val)) S1x1.size (k0_off11_inb i k r)).toLoadRect
          (harg4.unread x1) (Shape.Idx.first (numel1_S1x1.symm ▸ Nat.one_pos)))
      (arg5.view.readAt (Elt Ideal) (Rect.unit (s := S8x256) (k0_off11 i k (BitVec.ofNat 32 r.val)) S1x1.size (k0_off11_inb i k r)).toLoadRect
          (harg5.unread x2) (Shape.Idx.first (numel1_S1x1.symm ▸ Nat.one_pos)))
      (arg10.view.readAt (Elt Ideal) (Rect.unit (s := S4096x512) (k0_off12 i k (BitVec.ofNat 32 (128 * r.val))) S128x512.size (k0_off12_inb i k r)).toLoadRect f10)
      (arg8.view.readAt (Elt Ideal) (Rect.unit (s := S1x1x256x4096) (k0_off13 i k (BitVec.ofNat 32 (128 * r.val))) S1x1x256x128.size (k0_off13_inb i k r)).toLoadRect
          (harg8.unread x5)) := by
  have h2 : (i 2).val < 32 := (i 2).isLt
  have hk : k.val < ((i 2).val + 2) / 2 := by rw [← trips3]; exact k.isLt
  have hr := r.isLt
  exact {
    h573 := h573
    h577 := h577
    hks := ks_at i x0 x1 x2 x3 x4 x5 arg4 harg4 _ _ (k0_off11_eq i k r) (by omega) (by omega) _
    hvs := vs_at i x0 x1 x2 x3 x4 x5 arg5 harg5 _ _ (k0_off11_eq i k r) (by omega) (by omega) _
    hsc := fun s c => by
      rw [score_at i arg10 x0 x1 x2 x3 x4 x5 f10 _ h10 _ (k0_off12_eq i k r) (by omega) (by omega)]
      congr 1
      omega
    hv := fun d s => by
      rw [val_at i x0 x1 x2 x3 x4 x5 arg8 harg8 _ (k0_off13_eq i k r) (by omega)]
      congr 1
      omega }

/-- The second pass, from any shift and slope: before trip `k` the accumulator holds the weighted values of the first
    `2 k` key blocks, and the carried value is the sum of their weights. -/
@[instance_reducible] def loopV3 (v526 : FVec Ideal S1x512 .f32) (v573 v577 : FVec Ideal S8x512 .f32) (init : FVec Ideal S8x512 .f32)
    (sh sl : Fin 512 → EReal) (h573 : ∀ s c, v573 (ix2 s c) = sh c) (h577 : ∀ s c, v577 (ix2 s c) = sl c)
    (f10 : BufTy.Contents (Elt Ideal) arg10.view.ty)
    (h10 : ∀ (key : Fin 4096) (col : Fin 512), key.val < 256 * (((i 2).val + 2) / 2) →
            arg10.view.read (Elt Ideal) f10 (ix2 key col) = (ptOf i x0 x1 x2 x3 x4 x5).score key.val col) :
    Idealize.ShloMosaic.LoopInv (M := MT nD τ sig Unit (Elt Ideal) ℕ (UR sig nD τ) ℕ) Idealize.ShloMosaic.frame (wpE defs₀ Variants.none (c : Thread nD τ) none) E
      (k0_t3_loop i).lb (k0_t3_loop i).ub (k0_t3_loop i).st (k0_t3_ok i) init (k0_t3_body (F := Ideal) i arg3 harg3 arg4 harg4 arg5 harg5 arg6 harg6 arg7 harg7 arg8 harg8 arg9 harg9 arg10 harg10 arg11 harg11 arg0 arg1 v17 v526 v573 v577) where
  inv k acc := iprop((arg4.view.loc (c : Thread nD τ) ↦[arg4.view.set]{fullShare} harg4.unread x1)
    ∗ (arg5.view.loc (c : Thread nD τ) ↦[arg5.view.set]{fullShare} harg5.unread x2)
    ∗ (arg8.view.loc (c : Thread nD τ) ↦[arg8.view.set]{fullShare} harg8.unread x5)
    ∗ (arg10.view.loc (c : Thread nD τ) ↦[arg10.view.set]{fullShare} f10)
    ∗ (∃ f, (arg11.view.loc (c : Thread nD τ) ↦[arg11.view.set]{fullShare} f)
        ∗ ⌜∀ (d : Fin 256) (col : Fin 512), arg11.view.read (Elt Ideal) f (ix2 d col)
            = asum (ptOf i x0 x1 x2 x3 x4 x5).V (ptOf i x0 x1 x2 x3 x4 x5).vs (weight (ptOf i x0 x1 x2 x3 x4 x5) sh sl) (2 * k) d col⌝)
    ∗ ⌜∀ (s : Fin 8) (col : Fin 512), acc (ix2 s col) = lsum (weight (ptOf i x0 x1 x2 x3 x4 x5) sh sl) (2 * k) s col⌝)
  step k acc := by
    iintro ⟨H4, H5, H8, H10, ⟨%f, H11, %hf⟩, %hacc⟩
    unfold k0_t3_body
    sl_exec
    sl_step
    isplitl [H4]; · iexact H4
    isplitl [H5]; · iexact H5
    isplitl [H8]; · iexact H8
    isplitl [H10]; · iexact H10
    isplitl [H11]
    · iexists _; isplitl [H11]; · iexact H11
      ipureintro
      intro d col
      have e : ∀ (g : BufTy.Contents (Elt Ideal) arg11.view.ty) (L) (w : Vec Ideal S256x512 .f32),
          arg11.view.read (Elt Ideal) (arg11.view.writes (Elt Ideal) g
            (⟨Rect.unit (s := S256x512) ![0, 0] S256x512.size inb_S256x512_S256x512_0_0, w⟩ :: L)) (ix2 d col) = w (ix2 d col) :=
        fun g L w => View.read_writes_cons_rows_of_mem arg11.view g _ w L (ix2 d col) (ix2 d col) rfl
          (Nat.zero_add _).symm rfl
      rw [e]
      have t0 := trip3 i arg4 harg4 arg5 harg5 arg8 harg8 arg10 x0 x1 x2 x3 x4 x5 v573 v577 sh sl h573 h577 f10 h10 k 0
      have t1 := trip3 i arg4 harg4 arg5 harg5 arg8 harg8 arg10 x0 x1 x2 x3 x4 x5 v573 v577 sh sl h573 h577 f10 h10 k 1
      refine t1.asum4 _ d col ?_
      unfold loopV3.sl.v703
      have z : (![0, 0] : Fin 2 → ℕ) = fun _ => 0 := by funext a; fin_cases a <;> rfl
      refine (congrFun (View.readCov_unit_zero (S := S256x512) arg11.view z _ _) (ix2 d col)).trans ?_
      refine t0.asum4 _ d col ((congrArg (arg11.view.read (Elt Ideal) f) ?_).trans (hf d col))
      funext a
      apply Fin.ext
      match a with
      | ⟨0, _⟩ => show 0 + 1 * d.val = d.val; omega
      | ⟨1, _⟩ => show 0 + 1 * col.val = col.val; omega
    ipureintro
    intro s col
    have t0 := trip3 i arg4 harg4 arg5 harg5 arg8 harg8 arg10 x0 x1 x2 x3 x4 x5 v573 v577 sh sl h573 h577 f10 h10 k 0
    have t1 := trip3 i arg4 harg4 arg5 harg5 arg8 harg8 arg10 x0 x1 x2 x3 x4 x5 v573 v577 sh sl h573 h577 f10 h10 k 1
    exact t1.lsum3 _ s col (t0.lsum3 acc s col (hacc s col))
end

end Cert.AttnIdeal.Value
end
-- ==== Proof.Value.KBody.lean ====
module

public import proofs.«01_k».proof.Proof.Value.KRun

/-! # The body's run, with what it computes

From the six blocks of a point, the body leaves in its output block the kernel's form of the point's attention. -/

@[expose] public section

set_option maxRecDepth 16384

noncomputable section

namespace Cert.AttnIdeal.Value

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Value (Pt grp col clip lg lsum asum weight finish scl expo)

local notation "𝕄" => MT nD τ sig Unit (Elt Ideal) ℕ (UR sig nD τ) ℕ

/-! ## The number of key blocks, as a word -/

/-- The word of the number of pairs of key blocks. -/
def pairs (i : grid0.Coords) : BitVec 32 :=
  let v0 := Scalar.addi (BitVec.ofNat 32 (i 2).val) 2#32
  let v1 := Scalar.divsi v0 2#32
  let v6 := Scalar.subi (Scalar.extui (Scalar.cmpi .sgt v0 0#32)) (Scalar.extui (Scalar.cmpi .slt v0 0#32))
  let v11 := Scalar.subi (Scalar.extui (Scalar.cmpi .sgt 2#32 0#32)) (Scalar.extui (Scalar.cmpi .slt 2#32 0#32))
  let v15 := Scalar.andi (Scalar.cmpi .ne v6 v11) (Scalar.cmpi .ne (Scalar.remsi v0 2#32) 0#32)
  Scalar.select v15 (Scalar.subi v1 1#32) v1

theorem pairs_eq (i : grid0.Coords) : pairs i = BitVec.ofNat 32 (((i 2).val + 2) / 2) := by
  have h : ∀ n : Fin 32, ∀ i : grid0.Coords, (i 2).val = n.val → pairs i = BitVec.ofNat 32 ((n.val + 2) / 2) := by
    intro n i hn
    unfold pairs
    rw [hn]
    clear hn
    revert n
    decide +kernel
  exact h ⟨(i 2).val, (i 2).isLt⟩ i rfl

theorem trips2 (i : grid0.Coords) : (k0_t2_loop i).trips = 0 := by
  have h : ∀ n : Fin 32, ∀ i : grid0.Coords, (i 2).val = n.val → (k0_t2_loop i).trips = 0 := by
    intro n i hn
    unfold k0_t2_loop
    rw [hn]
    clear hn
    revert n
    decide +kernel
  exact h ⟨(i 2).val, (i 2).isLt⟩ i rfl

theorem trips4 (i : grid0.Coords) : (k0_t4_loop i).trips = 0 := by
  have h : ∀ n : Fin 32, ∀ i : grid0.Coords, (i 2).val = n.val → (k0_t4_loop i).trips = 0 := by
    intro n i hn
    unfold k0_t4_loop
    rw [hn]
    clear hn
    revert n
    decide +kernel
  exact h ⟨(i 2).val, (i 2).isLt⟩ i rfl

section
variable (c : Dev nD) (E : Set ℕ) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole)
  (arg0 arg1 arg2 v17 : BitVec 32)
  (x0 : Vec Ideal S8x1024 .f32) (x1 x2 : Vec Ideal S8x256 .f32) (x3 : Vec Ideal S1x128x1024 .fp8e4m3)
  (x4 : Vec Ideal S1x4096x256 .fp8e4m3) (x5 : Vec Ideal S1x1x256x4096 .fp8e4m3)

/-! ## The first pass and the last block of it -/

/-- The masked scores of the last pair of key blocks. -/
theorem last_score (v26 : FVec Ideal S512x256 .fp8e4m3) (hQ : ∀ c d, v26 (ix2 c d) = (ptOf i x0 x1 x2 x3 x4 x5).Q c d)
    (r : Fin 256) (n : ℕ) (hn : 256 * (((i 2).val + 2) / 2) - 256 + r.val = n) (col : Fin 512) :
    k0_pay24 (BitVec.ofNat 32 (i 2).val) (BitVec.ofNat 32 (((i 2).val + 2) / 2)) v26
        (arg7.view.readAt (Elt Ideal) (Rect.unit (s := S1x4096x256) (k0_off7 i) S1x256x256.size (k0_off7_inb i)).toLoadRect
          (harg7.unread x4)) (ix2 r col)
      = (ptOf i x0 x1 x2 x3 x4 x5).score n col := by
  have h2 : (i 2).val < 32 := (i 2).isLt
  have hr := r.isLt
  rw [pay24_apply, mask_eq _ h2, select_ofBool]
  have e : 256 * (((i 2).val + 2) / 2 - 1) + r.val = n := by omega
  rw [e]
  refine if_congr Iff.rfl (Finset.sum_congr rfl fun d _ => ?_) rfl
  rw [key_at i x0 x1 x2 x3 x4 x5 arg7 harg7 _ (k0_off7_eq i) (by omega), hQ, hn]

/-- The scores after the last pair of key blocks is stored. -/
theorem last_scores (v26 : FVec Ideal S512x256 .fp8e4m3) (hQ : ∀ c d, v26 (ix2 c d) = (ptOf i x0 x1 x2 x3 x4 x5).Q c d)
    (f : BufTy.Contents (Elt Ideal) arg10.view.ty)
    (hf : ∀ (key : Fin 4096) (col : Fin 512), key.val < 256 * (((i 2).val + 2) / 2 - 1) →
            arg10.view.read (Elt Ideal) f (ix2 key col) = (ptOf i x0 x1 x2 x3 x4 x5).score key.val col)
    (key : Fin 4096) (col : Fin 512) (hkey : key.val < 256 * (((i 2).val + 2) / 2)) :
    arg10.view.read (Elt Ideal) (arg10.view.writes (Elt Ideal) f
        [⟨Rect.unit (s := S4096x512) (k0_off8 i) S256x512.size (k0_off8_inb i),
          k0_pay25 (BitVec.ofNat 32 (i 2).val) (BitVec.ofNat 32 (((i 2).val + 2) / 2)) v26
            (arg7.view.readAt (Elt Ideal) (Rect.unit (s := S1x4096x256) (k0_off7 i) S1x256x256.size (k0_off7_inb i)).toLoadRect
              (harg7.unread x4))⟩]) (ix2 key col)
      = (ptOf i x0 x1 x2 x3 x4 x5).score key.val col := by
  by_cases hlt : key.val < 256 * (((i 2).val + 2) / 2) - 256
  · refine (View.read_writes_cons_rows_of_not_mem (W := 256) arg10.view f _ _ _ (ix2 key col) (k0_off8_eq i) rfl (Or.inl hlt)).trans ?_
    exact hf key col (by omega)
  · have hr : key.val - (256 * (((i 2).val + 2) / 2) - 256) < 256 := by omega
    refine (View.read_writes_cons_rows_of_mem arg10.view f _ _ _ (ix2 key col)
      (ix2 (⟨key.val - (256 * (((i 2).val + 2) / 2) - 256), hr⟩ : Fin 256) col) (k0_off8_eq i) ?_ rfl).trans ?_
    · show key.val = _ + (key.val - _)
      omega
    · rw [pay25_eq]
      exact last_score i arg7 harg7 x0 x1 x2 x3 x4 x5 v26 hQ _ _ (by show _ + (key.val - _) = _; omega) col

/-- What the sixth part hands on: the running maximum but for the last key block, and that block's scores. -/
structure Post6 (P : Pt) (r : Σ' (v36 : BitVec 32) (v72 : FVec Ideal S8x512 .f32), FVec Ideal S16x8x512 .f32) : Prop where
  h72 : ∀ (s : Fin 8) (col : Fin 512), r.2.1 (ix2 s col) = P.mx (2 * P.nc - 1) s col
  h74 : ∀ (u : Fin 16) (s : Fin 8) (col : Fin 512), r.2.2 (ix3 u s col) = P.score (128 * (2 * P.nc - 1) + 8 * u.val + s.val) col

set_option maxHeartbeats 1000000 in
theorem part6_run (v26 : FVec Ideal S512x256 .fp8e4m3) (v28 : FVec Ideal S8x512 .f32) (c0_i32_14 v32 : BitVec 32)
    (hQ : ∀ c d, v26 (ix2 c d) = (ptOf i x0 x1 x2 x3 x4 x5).Q c d) (h28 : ∀ s c, v28 (ix2 s c) = ⊥)
    (h2 : arg2 = BitVec.ofNat 32 (i 2).val) (h17 : v17 = BitVec.ofNat 32 (((i 2).val + 2) / 2))
    (X10 : BufTy.Contents (Elt Ideal) arg10.view.ty)
    (K : (Σ' (v36 : BitVec 32) (v72 : FVec Ideal S8x512 .f32), FVec Ideal S16x8x512 .f32) → sProp 𝕄) :
    iprop((arg4.view.loc (c : Thread nD τ) ↦[arg4.view.set]{fullShare} harg4.unread x1)
        ∗ (arg7.view.loc (c : Thread nD τ) ↦[arg7.view.set]{fullShare} harg7.unread x4)
        ∗ (arg10.view.loc (c : Thread nD τ) ↦[arg10.view.set]{fullShare} X10)
        ∗ (∀ r, iprop((arg4.view.loc (c : Thread nD τ) ↦[arg4.view.set]{fullShare} harg4.unread x1)
            ∗ (arg7.view.loc (c : Thread nD τ) ↦[arg7.view.set]{fullShare} harg7.unread x4)
            ∗ (∃ f, (arg10.view.loc (c : Thread nD τ) ↦[arg10.view.set]{fullShare} f)
                ∗ ⌜∀ (key : Fin 4096) (col : Fin 512), key.val < 256 * (((i 2).val + 2) / 2) →
                    arg10.view.read (Elt Ideal) f (ix2 key col) = (ptOf i x0 x1 x2 x3 x4 x5).score key.val col⌝)
            ∗ ⌜Post6 (ptOf i x0 x1 x2 x3 x4 x5) r⌝) -∗ K r))
      ⊢ wp frame (wpE (defs₀ (F := Ideal)) Variants.none c none) E
          (k0_part6 i arg3 harg3 arg4 harg4 arg5 harg5 arg6 harg6 arg7 harg7 arg8 harg8 arg9 harg9 arg10 harg10 arg11 harg11 arg0 arg1 arg2 v17 v26 v28 c0_i32_14 v32) K := by
  subst h2 h17
  have htr : (k0_t2_loop i).trips = 0 := trips2 i
  let L := loopV1 c E i arg3 harg3 arg4 harg4 arg5 harg5 arg6 harg6 arg7 harg7 arg8 harg8 arg9 harg9 arg10 harg10 arg11 harg11 arg0 arg1 (BitVec.ofNat 32 (i 2).val) (BitVec.ofNat 32 (((i 2).val + 2) / 2)) x0 x1 x2 x3 x4 x5 v26 v28 c0_i32_14 v32 v28 hQ
  simp only [k0_part6_eq_skeleton]; unfold k0_part6_skel
  iintro ⟨H4, H7, H10, Hk⟩
  sl_exec
  have e1 : Scf.trips (k0_t1_loop i).lb (k0_t1_loop i).ub (k0_t1_loop i).st = ((i 2).val + 2) / 2 - 1 := trips1 i
  have e2 : Scf.trips (k0_t2_loop i).lb (k0_t2_loop i).ub (k0_t2_loop i).st = 0 := htr
  rw [e1] at hL3 hL4
  simp only [e2, st_k0_t2.eq_1]
  sl_step
  iapply Hk
  isplitl [H4]; · iexact H4
  isplitl [H7]; · iexact H7
  isplitl [H10]
  · iexists _; isplitl [H10]; · iexact H10
    ipureintro
    exact last_scores i arg7 harg7 arg10 x0 x1 x2 x3 x4 x5 v26 hQ fL0 hL3
  ipureintro
  have hi : (i 2).val < 32 := (i 2).isLt
  have hn : (ptOf i x0 x1 x2 x3 x4 x5).nc = ((i 2).val + 2) / 2 := rfl
  constructor
  · intro s col
    have hs := s.isLt
    refine (pay26_apply _ _ _ _ _ _ s col).trans ?_
    rw [hL4, hn, show 2 * (((i 2).val + 2) / 2) - 1 = 2 * (((i 2).val + 2) / 2 - 1) + 1 by omega, mx_succ]
    refine congrArg₂ max rfl (congrArg₂ (· * ·) (Finset.sup_congr rfl fun u _ => ?_) ?_)
    · refine last_score i arg7 harg7 x0 x1 x2 x3 x4 x5 v26 hQ _ _ ?_ col
      show _ + (u.val * 8 + s.val) = _
      omega
    · exact ks_at i x0 x1 x2 x3 x4 x5 arg4 harg4 (inb := k0_off9_inb i 0) (2 * (((i 2).val + 2) / 2 - 1)) _ (k0_off9_eq i 0)
        (by show 16 * (((i 2).val + 2) / 2) + 8 * 0 + (i 1).val - 16 = _; omega) (by omega) _
  · intro u s col
    have hs := s.isLt
    refine (pay27_apply _ _ _ _ u s col).trans (last_score i arg7 harg7 x0 x1 x2 x3 x4 x5 v26 hQ _ _ ?_ col)
    show _ + (128 + (u.val * 8 + s.val)) = _
    rw [hn]
    omega

/-! ## The second pass -/

/-- What the last part hands on, of any shift, slope and scale: the results, and the third head's laid out. -/
structure Post18 (P : Pt) (sh sl sc : Fin 512 → EReal) (r : Σ' (v596 : FVec Ideal S256x512 .f32), FVec Ideal S1x128x256 .bf16) : Prop where
  h596 : ∀ (d : Fin 256) (col : Fin 512), r.1 (ix2 d col) = finish P (weight P sh sl) sc d col
  h614 : ∀ (q : Fin 128) (d : Fin 256), r.2 (ix3 0 q d) = finish P (weight P sh sl) sc d (col 2 q)

/-- A head's store into the output block, at its own lanes. -/
theorem head_mem (f : BufTy.Contents (Elt Ideal) arg9.view.ty) (o : ℕ) (inb : ∀ a, (![0, 0, o] : Fin 3 → ℕ) a + S1x128x256.size a ≤ S1x128x1024.size a)
    (w : Vec Ideal S1x128x256 .bf16) (L) (q : Fin 128) (d : Fin 256) (l : Fin 1024) (hl : l.val = o + d.val) :
    arg9.view.read (Elt Ideal) (arg9.view.writes (Elt Ideal) f (⟨Rect.unit (s := S1x128x1024) ![0, 0, o] S1x128x256.size inb, w⟩ :: L)) (ix3 0 q l)
      = w (ix3 0 q d) := by
  refine View.read_writes_cons_unit_of_mem arg9.view f inb w L (ix3 0 q l) (ix3 0 q d) rfl fun a => ?_
  match a with
  | ⟨0, _⟩ => rfl
  | ⟨1, _⟩ => show q.val = 0 + q.val; omega
  | ⟨2, _⟩ => exact hl

/-- … and at the lanes of another head. -/
theorem head_not_mem (f : BufTy.Contents (Elt Ideal) arg9.view.ty) (o : ℕ) (inb : ∀ a, (![0, 0, o] : Fin 3 → ℕ) a + S1x128x256.size a ≤ S1x128x1024.size a)
    (w : Vec Ideal S1x128x256 .bf16) (L) (q : Fin 128) (l : Fin 1024) (hl : l.val < o ∨ o + 256 ≤ l.val) :
    arg9.view.read (Elt Ideal) (arg9.view.writes (Elt Ideal) f (⟨Rect.unit (s := S1x128x1024) ![0, 0, o] S1x128x256.size inb, w⟩ :: L)) (ix3 0 q l)
      = arg9.view.read (Elt Ideal) (arg9.view.writes (Elt Ideal) f L) (ix3 0 q l) :=
  View.read_writes_cons_unit_of_not_mem arg9.view f inb w L (ix3 0 q l) rfl 2 hl

set_option maxHeartbeats 1000000 in
theorem part18_run (v526 : FVec Ideal S1x512 .f32) (v573 v577 : FVec Ideal S8x512 .f32) (sh sl sc : Fin 512 → EReal)
    (h526 : ∀ c, v526 (ix2 0 c) = sc c) (h573 : ∀ s c, v573 (ix2 s c) = sh c) (h577 : ∀ s c, v577 (ix2 s c) = sl c)
    (X9 : BufTy.Contents (Elt Ideal) arg9.view.ty) (X10 : BufTy.Contents (Elt Ideal) arg10.view.ty) (X11 : BufTy.Contents (Elt Ideal) arg11.view.ty)
    (h10 : ∀ (key : Fin 4096) (col : Fin 512), key.val < 256 * (((i 2).val + 2) / 2) →
            arg10.view.read (Elt Ideal) X10 (ix2 key col) = (ptOf i x0 x1 x2 x3 x4 x5).score key.val col)
    (K : (Σ' (v596 : FVec Ideal S256x512 .f32), FVec Ideal S1x128x256 .bf16) → sProp 𝕄) :
    iprop((arg4.view.loc (c : Thread nD τ) ↦[arg4.view.set]{fullShare} harg4.unread x1)
        ∗ (arg5.view.loc (c : Thread nD τ) ↦[arg5.view.set]{fullShare} harg5.unread x2)
        ∗ (arg8.view.loc (c : Thread nD τ) ↦[arg8.view.set]{fullShare} harg8.unread x5)
        ∗ (arg9.view.loc (c : Thread nD τ) ↦[arg9.view.set]{fullShare} X9)
        ∗ (arg10.view.loc (c : Thread nD τ) ↦[arg10.view.set]{fullShare} X10)
        ∗ (arg11.view.loc (c : Thread nD τ) ↦[arg11.view.set]{fullShare} X11)
        ∗ (∀ r, iprop((arg4.view.loc (c : Thread nD τ) ↦[arg4.view.set]{fullShare} harg4.unread x1)
            ∗ (arg5.view.loc (c : Thread nD τ) ↦[arg5.view.set]{fullShare} harg5.unread x2)
            ∗ (arg8.view.loc (c : Thread nD τ) ↦[arg8.view.set]{fullShare} harg8.unread x5)
            ∗ (∃ f, (arg9.view.loc (c : Thread nD τ) ↦[arg9.view.set]{fullShare} f)
                ∗ ⌜∀ (g : Fin 2) (q : Fin 128) (d : Fin 256), arg9.view.read (Elt Ideal) f (ix3 0 q (⟨256 * g.val + d.val, by omega⟩ : Fin 1024))
                    = finish (ptOf i x0 x1 x2 x3 x4 x5) (weight (ptOf i x0 x1 x2 x3 x4 x5) sh sl) sc d (col (⟨g.val, by omega⟩ : Fin 4) q)⌝)
            ∗ (∃ f, (arg10.view.loc (c : Thread nD τ) ↦[arg10.view.set]{fullShare} f))
            ∗ (∃ f, (arg11.view.loc (c : Thread nD τ) ↦[arg11.view.set]{fullShare} f))
            ∗ ⌜Post18 (ptOf i x0 x1 x2 x3 x4 x5) sh sl sc r⌝) -∗ K r))
      ⊢ wp frame (wpE (defs₀ (F := Ideal)) Variants.none c none) E
          (k0_part18 i arg3 harg3 arg4 harg4 arg5 harg5 arg6 harg6 arg7 harg7 arg8 harg8 arg9 harg9 arg10 harg10 arg11 harg11 arg0 arg1 v17 v526 v573 v577) K := by
  have htr : (k0_t4_loop i).trips = 0 := trips4 i
  have h11 : ∀ (d : Fin 256) (col : Fin 512), arg11.view.read (Elt Ideal) (arg11.view.writes (Elt Ideal) arg11.view.junk
        [⟨Rect.unit (s := S256x512) ![0, 0] S256x512.size inb_S256x512_S256x512_0_0, k0_pay74 (F := Ideal)⟩]) (ix2 d col)
      = asum (ptOf i x0 x1 x2 x3 x4 x5).V (ptOf i x0 x1 x2 x3 x4 x5).vs (weight (ptOf i x0 x1 x2 x3 x4 x5) sh sl) (2 * 0) d col :=
    fun d col => (View.read_writes_cons_rows_of_mem arg11.view _ _ _ _ (ix2 d col) (ix2 d col) rfl (Nat.zero_add _).symm rfl).trans
      (pay74_apply d col)
  have hl : ∀ (s : Fin 8) (col : Fin 512), k0_pay75 (F := Ideal) (ix2 s col) = lsum (weight (ptOf i x0 x1 x2 x3 x4 x5) sh sl) (2 * 0) s col :=
    fun s col => pay75_apply s col
  let L := loopV3 c E i arg3 harg3 arg4 harg4 arg5 harg5 arg6 harg6 arg7 harg7 arg8 harg8 arg9 harg9 arg10 harg10 arg11 harg11 arg0 arg1 v17 x0 x1 x2 x3 x4 x5 v526 v573 v577 (k0_pay75 (F := Ideal)) sh sl h573 h577 X10 h10
  simp only [k0_part18_eq_skeleton]; unfold k0_part18_skel
  iintro ⟨H4, H5, H8, H9, H10, H11, Hk⟩
  sl_exec
  rename_i acc
  have e3 : Scf.trips (k0_t3_loop i).lb (k0_t3_loop i).ub (k0_t3_loop i).st = ((i 2).val + 2) / 2 := trips3 i
  have e4 : Scf.trips (k0_t4_loop i).lb (k0_t4_loop i).ub (k0_t4_loop i).st = 0 := htr
  rw [e3] at hL5 hL6
  unfold part18_run.sl.v593
  simp only [e4, st_k0_t4.eq_1]
  have fin (w : Vec Ideal S256x512 .f32) (hw : ∀ y, w y = arg11.view.read (Elt Ideal) fL0 y) (d : Fin 256) (col : Fin 512) :
      k0_pay78 v526 acc w (ix2 d col) = finish (ptOf i x0 x1 x2 x3 x4 x5) (weight (ptOf i x0 x1 x2 x3 x4 x5) sh sl) sc d col := by
    rw [pay78_apply, hw, hL5, h526, Finset.sum_congr rfl fun s _ => hL6 s col]
    rfl
  sl_step
  iapply Hk
  isplitl [H4]; · iexact H4
  isplitl [H5]; · iexact H5
  isplitl [H8]; · iexact H8
  have hw (y : S256x512.Idx) : arg11.view.readAt (Elt Ideal)
      (Rect.unit (s := S256x512) ![0, 0] S256x512.size inb_S256x512_S256x512_0_0).toLoadRect
      (arg11.view.writes (Elt Ideal) fL0 []) y = arg11.view.read (Elt Ideal) fL0 y := by
    refine congrArg (arg11.view.read (Elt Ideal) fL0) ?_
    funext a
    apply Fin.ext
    match a with
    | ⟨0, _⟩ => show 0 + 1 * (y 0).val = (y 0).val; omega
    | ⟨1, _⟩ => show 0 + 1 * (y 1).val = (y 1).val; omega
  isplitl [H9]
  · iexists _; isplitl [H9]; · iexact H9
    ipureintro
    intro g q d
    have hd := d.isLt
    match g with
    | ⟨0, _⟩ =>
      refine (head_not_mem arg9 _ 256 _ _ _ q _ (Or.inl ?_)).trans ((head_mem arg9 _ 0 _ _ _ q d _ ?_).trans ?_)
      · show 256 * 0 + d.val < 256; omega
      · show 256 * 0 + d.val = 0 + d.val; omega
      · exact (pay79_apply _ _ _ q d).trans (fin _ hw d _)
    | ⟨1, _⟩ =>
      refine (head_mem arg9 _ 256 _ _ _ q d _ ?_).trans ?_
      · show 256 * 1 + d.val = 256 + d.val; omega
      · exact (pay80_apply _ _ _ q d).trans (fin _ hw d _)
  isplitl [H10]; · iexists _; iexact H10
  isplitl [H11]; · iexists _; iexact H11
  ipureintro
  exact ⟨fun d col => fin _ hw d col, fun q d => (pay81_apply _ _ _ q d).trans (fin _ hw d _)⟩
end

/-! ## The largest weights, their exponents and scales -/

section
variable (P : Pt) (v85 : FVec Ideal S8x512 .f32) (a b e g : EReal)
  (h85 : ∀ (s : Fin 8) (c : Fin 512), v85 (ix2 s c) = P.mx (2 * P.nc) s c)
  (ha : a = P.qr 0) (hb : b = P.qr 1) (he : e = P.qr 2) (hg : g * Ideal.ofBits .f32 0x3D800000#32 = P.qr 3)
include h85 ha hb he hg

theorem km_eq (c : Fin 512) : k0_pay33 (F := Ideal) v85 a b e g (ix2 0 c) = P.km c := by
  rw [pay33_apply, pay32_apply a b e g P.qr c ha hb he hg, Finset.sup_congr rfl fun s _ => h85 s c]
  rfl

theorem ka_at (q : Fin 4) : (Finset.univ.sup fun r : Fin 128 => k0_pay34 (F := Ideal) v85 a b e g (ix2 0 (col q r))) = P.ka q := by
  refine Finset.sup_congr rfl fun r _ => ?_
  rw [pay34_apply, km_eq P v85 a b e g h85 ha hb he hg]

theorem slope_eq (s : Fin 8) (c : Fin 512) : k0_pay73 (F := Ideal) (k0_pay32 (F := Ideal) a b e g) (ix2 s c) = P.slope c := by
  rw [pay73_apply, pay32_apply a b e g P.qr c ha hb he hg]
  rfl

variable (hka : ∀ q, P.ka q = 0 ∨ P.ka q = 1)
include hka

theorem scale_eq (c : Fin 512) (x : FVec Ideal S1x512 .f32) (y : FVec Ideal S1 .f32)
    (hx : x = k0_pay34 (F := Ideal) v85 a b e g) (hy : y = k0_pay35 (F := Ideal) v85 a b e g) :
    k0_pay70 (F := Ideal) (k0_pay42 (k0_pay36 y) (k0_pay37 y) (k0_pay38 y) (k0_pay39 y) (k0_pay40 y))
        (k0_pay52 (k0_pay44 x) (k0_pay45 x) (k0_pay49 (k0_pay45 x) k0_pay46 k0_pay47 k0_pay48) (k0_pay50 (k0_pay45 x) k0_pay46 k0_pay47 k0_pay48))
        (k0_pay60 (k0_pay54 x) (k0_pay57 (k0_pay55 x) (k0_pay56 x) 32#32) (k0_pay58 (k0_pay55 x) (k0_pay56 x) 32#32))
        (k0_pay68 (k0_pay62 x) (k0_pay63 x) (k0_pay64 x) (k0_pay65 x) k0_pay66) (ix2 0 c)
      = (scl (P.ka (grp c)) : EReal) := by
  have hk := ka_at P v85 a b e g h85 ha hb he hg
  rw [scale0, scale1, scale2]
  refine pay70_apply _ _ _ _ (fun q => (scl (P.ka q) : EReal)) c ?_ ?_ ?_ ?_
  · exact scaleF_eq _ _ (fun j => by rw [hy, pay36_35]; exact hk 0) (hka 0) _
  · exact scaleF_eq _ _ (fun j => by rw [pay44_apply, hx]; exact hk 1) (hka 1) _
  · exact scaleF_eq _ _ (fun j => by rw [pay54_apply, hx]; exact hk 2) (hka 2) _
  · rw [scale3]
    exact scaleF_eq _ _ (fun j => by rw [pay62_apply, hx]; exact hk 3) (hka 3) _

theorem shift_eq (s : Fin 8) (c : Fin 512) (x : FVec Ideal S1x512 .f32) (y : FVec Ideal S1 .f32)
    (hx : x = k0_pay34 (F := Ideal) v85 a b e g) (hy : y = k0_pay35 (F := Ideal) v85 a b e g) :
    k0_pay72 (F := Ideal) (k0_pay43 (k0_pay36 y) (k0_pay37 y) (k0_pay38 y) (k0_pay39 y) (k0_pay40 y))
        (k0_pay53 (k0_pay44 x) (k0_pay45 x) (k0_pay49 (k0_pay45 x) k0_pay46 k0_pay47 k0_pay48) (k0_pay50 (k0_pay45 x) k0_pay46 k0_pay47 k0_pay48))
        (k0_pay61 (k0_pay54 x) (k0_pay57 (k0_pay55 x) (k0_pay56 x) 32#32) (k0_pay58 (k0_pay55 x) (k0_pay56 x) 32#32))
        (k0_pay69 (F := Ideal) (k0_pay67 (k0_pay62 x) (k0_pay63 x) (k0_pay64 x) (k0_pay65 x) k0_pay66))
        (k0_pay71 (k0_pay33 (F := Ideal) v85 a b e g)) (ix2 s c)
      = P.shift c := by
  have hk := ka_at P v85 a b e g h85 ha hb he hg
  rw [expo0, expo1, expo2, expo3]
  refine (pay72_apply _ _ _ _ _ (fun q => (expo (P.ka q) : EReal)) s c ?_ ?_ ?_ ?_).trans ?_
  · exact expoF_eq _ _ (fun j => by rw [hy, pay36_35]; exact hk 0) (hka 0) _
  · exact expoF_eq _ _ (fun j => by rw [pay44_apply, hx]; exact hk 1) (hka 1) _
  · exact expoF_eq _ _ (fun j => by rw [pay54_apply, hx]; exact hk 2) (hka 2) _
  · exact expoF_eq _ _ (fun j => by rw [pay62_apply, hx]; exact hk 3) (hka 3) _
  · rw [pay71_apply, km_eq P v85 a b e g h85 ha hb he hg]
    rfl
end

/-! ## The body -/

/-- What a point leaves in its output block. -/
def outBlk (P : Pt) : Vec Ideal S1x128x1024 .bf16 := fun y =>
  P.kout ⟨(y 2).val % 256, by omega⟩ (col ⟨(y 2).val / 256, by have : (y 2).val < 1024 := (y 2).isLt; omega⟩ (y 1))

theorem outBlk_apply (P : Pt) (g : Fin 4) (q : Fin 128) (d : Fin 256) (l : Fin 1024) (hl : l.val = 256 * g.val + d.val) :
    outBlk P (ix3 0 q l) = P.kout d (col g q) := by
  have hd := d.isLt
  show P.kout ⟨l.val % 256, _⟩ (col ⟨l.val / 256, _⟩ q) = _
  exact congrArg₂ P.kout (Fin.ext (by show l.val % 256 = d.val; omega))
    (congrArg (col · q) (Fin.ext (by show l.val / 256 = g.val; omega)))

/-- The four heads' stores leave the output block. -/
theorem out_eq (arg9 : Memref sig .tc .vmem S1x128x1024 .bf16) (P : Pt) (g9 : BufTy.Contents (Elt Ideal) arg9.view.ty)
    (r : Σ' (v596 : FVec Ideal S256x512 .f32), FVec Ideal S1x128x256 .bf16)
    (h9 : ∀ (g : Fin 2) (q : Fin 128) (d : Fin 256), arg9.view.read (Elt Ideal) g9 (ix3 0 q (⟨256 * g.val + d.val, by omega⟩ : Fin 1024))
        = P.kout d (col (⟨g.val, by omega⟩ : Fin 4) q))
    (h18 : Post18 P P.shift P.slope (fun c => (scl (P.ka (grp c)) : EReal)) r) (z : Fin 1) (q : Fin 128) (l : Fin 1024) :
    arg9.view.read (Elt Ideal) (arg9.view.writes (Elt Ideal) g9
        [⟨Rect.unit (s := S1x128x1024) ![0, 0, 768] S1x128x256.size inb_S1x128x1024_S1x128x256_0_0_768, k0_pay1 r.1⟩,
          ⟨Rect.unit (s := S1x128x1024) ![0, 0, 512] S1x128x256.size inb_S1x128x1024_S1x128x256_0_0_512, r.2⟩]) (ix3 z q l)
      = outBlk P (ix3 z q l) := by
  have hz : z = 0 := Subsingleton.elim _ _
  subst hz
  have hl := l.isLt
  have hd : l.val % 256 < 256 := by omega
  by_cases h3 : 768 ≤ l.val
  · rw [outBlk_apply P 3 q ⟨l.val % 256, hd⟩ l (by show l.val = 256 * 3 + l.val % 256; omega)]
    refine (head_mem arg9 _ 768 _ _ _ q ⟨l.val % 256, hd⟩ l (by show l.val = 768 + l.val % 256; omega)).trans ?_
    exact (pay1_apply _ q _).trans (h18.h596 _ _)
  refine (head_not_mem arg9 _ 768 _ _ _ q l (Or.inl (by omega))).trans ?_
  by_cases h2 : 512 ≤ l.val
  · rw [outBlk_apply P 2 q ⟨l.val % 256, hd⟩ l (by show l.val = 256 * 2 + l.val % 256; omega)]
    refine (head_mem arg9 _ 512 _ _ _ q ⟨l.val % 256, hd⟩ l (by show l.val = 512 + l.val % 256; omega)).trans ?_
    exact h18.h614 _ _
  refine (head_not_mem arg9 _ 512 _ _ _ q l (Or.inl (by omega))).trans ?_
  have hg : l.val / 256 < 2 := by omega
  rw [outBlk_apply P ⟨l.val / 256, by omega⟩ q ⟨l.val % 256, hd⟩ l (by show l.val = 256 * (l.val / 256) + l.val % 256; omega)]
  refine Eq.trans ?_ (h9 ⟨l.val / 256, hg⟩ q ⟨l.val % 256, hd⟩)
  show arg9.view.read (Elt Ideal) g9 _ = _
  congr 2
  apply Fin.ext
  show l.val = 256 * (l.val / 256) + l.val % 256
  omega

/-- A head's query rows. -/
theorem q_at (i : grid0.Coords) (x0 : Vec Ideal S8x1024 .f32) (x1 x2 : Vec Ideal S8x256 .f32) (x3 : Vec Ideal S1x128x1024 .fp8e4m3)
    (x4 : Vec Ideal S1x4096x256 .fp8e4m3) (x5 : Vec Ideal S1x1x256x4096 .fp8e4m3)
    (m : Memref sig .tc .vmem S1x128x1024 .fp8e4m3) (hm : m.IsWhole) (g : Fin 4) (o : ℕ) (ho : o = 256 * g.val)
    (inb : ∀ a, (![0, 0, o] : Fin 3 → ℕ) a + S1x128x256.size a ≤ S1x128x1024.size a) (r : Fin 128) (d : Fin 256) :
    m.view.readAt (Elt Ideal) (Rect.unit (s := S1x128x1024) ![0, 0, o] S1x128x256.size inb).toLoadRect (hm.unread x3) (ix3 0 r d)
      = (ptOf i x0 x1 x2 x3 x4 x5).Q (col g r) d := by
  have hr := r.isLt
  have hg := g.isLt
  have hd := d.isLt
  refine readAt_at m hm x3 rfl _ _ fun k => ?_
  match k with
  | ⟨0, _⟩ => rfl
  | ⟨1, _⟩ => show (128 * g.val + r.val) % 128 = 0 + r.val; omega
  | ⟨2, _⟩ => show 256 * ((128 * g.val + r.val) / 128) + d.val = o + d.val; omega

section
variable (c : Dev nD) (E : Set ℕ) (i : grid0.Coords) (arg3 : Memref sig .tc .smem S8x1024 .f32) (harg3 : arg3.IsWhole) (arg4 : Memref sig .tc .smem S8x256 .f32) (harg4 : arg4.IsWhole) (arg5 : Memref sig .tc .smem S8x256 .f32) (harg5 : arg5.IsWhole) (arg6 : Memref sig .tc .vmem S1x128x1024 .fp8e4m3) (harg6 : arg6.IsWhole) (arg7 : Memref sig .tc .vmem S1x4096x256 .fp8e4m3) (harg7 : arg7.IsWhole) (arg8 : Memref sig .tc .vmem S1x1x256x4096 .fp8e4m3) (harg8 : arg8.IsWhole) (arg9 : Memref sig .tc .vmem S1x128x1024 .bf16) (harg9 : arg9.IsWhole) (arg10 : Memref sig .tc .vmem S4096x512 .f32) (harg10 : arg10.IsWhole) (arg11 : Memref sig .tc .vmem S256x512 .f32) (harg11 : arg11.IsWhole)
  (x0 : Vec Ideal S8x1024 .f32) (x1 x2 : Vec Ideal S8x256 .f32) (x3 : Vec Ideal S1x128x1024 .fp8e4m3)
  (x4 : Vec Ideal S1x4096x256 .fp8e4m3) (x5 : Vec Ideal S1x1x256x4096 .fp8e4m3)

set_option maxHeartbeats 4000000 in
/-- The body's triple with its result: from whole staging memrefs at the six blocks, the output's left at the kernel's
    form of the point's attention, where the scales of queries and keys are positive. -/
theorem body_run (hks : ∀ j, 0 < (ptOf i x0 x1 x2 x3 x4 x5).ks j) (hqr : ∀ g, 0 < (ptOf i x0 x1 x2 x3 x4 x5).qr g)
    (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk (ptOf i x0 x1 x2 x3 x4 x5)) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11) K := by
  have hi : (i 2).val < 32 := (i 2).isLt
  have hn : (ptOf i x0 x1 x2 x3 x4 x5).nc = ((i 2).val + 2) / 2 := rfl
  have hka := Cert.Value.Pt.ka_zero_or_one hks hqr hi
  have hQ := pay16_apply _ _ _ _ (ptOf i x0 x1 x2 x3 x4 x5).Q
    (q_at i x0 x1 x2 x3 x4 x5 arg6 harg6 0 0 rfl inb_S1x128x1024_S1x128x256_0_0_0)
    (q_at i x0 x1 x2 x3 x4 x5 arg6 harg6 1 256 rfl inb_S1x128x1024_S1x128x256_0_0_256)
    (q_at i x0 x1 x2 x3 x4 x5 arg6 harg6 2 512 rfl inb_S1x128x1024_S1x128x256_0_0_512)
    (q_at i x0 x1 x2 x3 x4 x5 arg6 harg6 3 768 rfl inb_S1x128x1024_S1x128x256_0_0_768)
  simp only [cc0_attention_eq_skeleton]; unfold cc0_attention_skel
  simp only [k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  set_option sl_exec.stopBefore "k0_part6" in sl_exec
  rw [wp_bind]
  iapply (part6_run c E i arg3 harg3 arg4 harg4 arg5 harg5 arg6 harg6 arg7 harg7 arg8 harg8 arg9 harg9 arg10 harg10 arg11 harg11 _ _ _ _ x0 x1 x2 x3 x4 x5 _ _ _ _ hQ pay17_apply rfl (pairs_eq i) _ _)
  isplitl [H1]; · iexact H1
  isplitl [H4]; · iexact H4
  isplitl [HS0]; · iexact HS0
  iintro %r6 ⟨H1, H4, ⟨%g10, HS0, %h10⟩, %h6⟩
  have h85 : ∀ (s : Fin 8) (c : Fin 512), k0_pay28 r6.2.1 r6.2.2 (arg4.view.readAt (Elt Ideal) (Rect.unit (s := S8x256) (k0_off9 i 1#32) S1x1.size (k0_off9_inb i 1)).toLoadRect (harg4.unread x1) (Shape.Idx.first (numel1_S1x1.symm ▸ Nat.one_pos))) (ix2 s c)
      = (ptOf i x0 x1 x2 x3 x4 x5).mx (2 * (ptOf i x0 x1 x2 x3 x4 x5).nc) s c := by
    intro s c
    rw [pay28_apply, h6.h72, hn,
      show 2 * (((i 2).val + 2) / 2) = 2 * (((i 2).val + 2) / 2) - 1 + 1 by omega, mx_succ, Nat.add_sub_cancel]
    refine congrArg₂ max rfl (congrArg₂ (· * ·) (Finset.sup_congr rfl fun u _ => ?_)
      (ks_at i x0 x1 x2 x3 x4 x5 arg4 harg4 (inb := k0_off9_inb i 1) (2 * (((i 2).val + 2) / 2) - 1) _ (k0_off9_eq i 1)
        (by show 16 * (((i 2).val + 2) / 2) + 8 * 1 + (i 1).val - 16 = _; omega) (by omega) _))
    rw [h6.h74, hn]
  have ha : k0_pay29 (F := Ideal) (arg3.view.readAt (Elt Ideal) (Rect.unit (s := S8x1024) (k0_off10 i 0#32) S1x1.size (k0_off10_inb i 0)).toLoadRect (harg3.unread x0) (Shape.Idx.first (numel1_S1x1.symm ▸ Nat.one_pos))) = (ptOf i x0 x1 x2 x3 x4 x5).qr 0 :=
    qr_at i x0 x1 x2 x3 x4 x5 arg3 harg3 (inb := k0_off10_inb i 0) 0 (k0_off10_eq i 0) _
  have hb : k0_pay30 (F := Ideal) (arg3.view.readAt (Elt Ideal) (Rect.unit (s := S8x1024) (k0_off10 i 1#32) S1x1.size (k0_off10_inb i 1)).toLoadRect (harg3.unread x0) (Shape.Idx.first (numel1_S1x1.symm ▸ Nat.one_pos))) = (ptOf i x0 x1 x2 x3 x4 x5).qr 1 :=
    qr_at i x0 x1 x2 x3 x4 x5 arg3 harg3 (inb := k0_off10_inb i 1) 1 (k0_off10_eq i 1) _
  have he : k0_pay31 (F := Ideal) (arg3.view.readAt (Elt Ideal) (Rect.unit (s := S8x1024) (k0_off10 i 2#32) S1x1.size (k0_off10_inb i 2)).toLoadRect (harg3.unread x0) (Shape.Idx.first (numel1_S1x1.symm ▸ Nat.one_pos))) = (ptOf i x0 x1 x2 x3 x4 x5).qr 2 :=
    qr_at i x0 x1 x2 x3 x4 x5 arg3 harg3 (inb := k0_off10_inb i 2) 2 (k0_off10_eq i 2) _
  have hg : (arg3.view.readAt (Elt Ideal) (Rect.unit (s := S8x1024) (k0_off10 i 3#32) S1x1.size (k0_off10_inb i 3)).toLoadRect (harg3.unread x0) (Shape.Idx.first (numel1_S1x1.symm ▸ Nat.one_pos))) * Ideal.ofBits .f32 0x3D800000#32 = (ptOf i x0 x1 x2 x3 x4 x5).qr 3 :=
    qr_at i x0 x1 x2 x3 x4 x5 arg3 harg3 (inb := k0_off10_inb i 3) 3 (k0_off10_eq i 3) _
  set_option sl_exec.stopBefore "k0_part18" in sl_exec
  rw [wp_bind]
  iapply (part18_run c E i arg3 harg3 arg4 harg4 arg5 harg5 arg6 harg6 arg7 harg7 arg8 harg8 arg9 harg9 arg10 harg10 arg11 harg11 _ _ _ x0 x1 x2 x3 x4 x5 _ _ _
    (ptOf i x0 x1 x2 x3 x4 x5).shift (ptOf i x0 x1 x2 x3 x4 x5).slope (fun c => (scl ((ptOf i x0 x1 x2 x3 x4 x5).ka (grp c)) : EReal))
    (fun c => scale_eq _ _ _ _ _ _ h85 ha hb he hg hka c _ _ rfl rfl)
    (fun s c => shift_eq _ _ _ _ _ _ h85 ha hb he hg hka s c _ _ rfl rfl)
    (fun s c => slope_eq _ _ _ _ _ _ h85 ha hb he hg s c) _ _ _ h10 _)
  isplitl [H1]; · iexact H1
  isplitl [H2]; · iexact H2
  isplitl [H5]; · iexact H5
  isplitl [H6]; · iexact H6
  isplitl [HS0]; · iexact HS0
  isplitl [HS1]; · iexact HS1
  iintro %r ⟨H1, H2, H5, ⟨%g9, H6, %h9⟩, ⟨%g10', HS0⟩, ⟨%g11, HS1⟩, %h18⟩
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    funext y
    idx_vars y
    exact out_eq arg9 (ptOf i x0 x1 x2 x3 x4 x5) g9 r h9 h18 _ _ _
  isplitl [HS0]
  · iexists _, _; isplitr; swap; · iexact HS0
    ipureintro; rfl
  iexists _, _; isplitr; swap; · iexact HS1
  ipureintro; rfl
end

end Cert.AttnIdeal.Value
end
-- ==== Proof.Value.Pts.lean ====
/- A point of the grid as a function of the six argument arrays, and the result array. -/
module

public import proofs.«01_k».proof.AttnIdeal
public import proofs.«01_k».proof.Proof.Value.Core
public import Idealize.ShloMosaic.Lib.Pointwise

@[expose] public section
noncomputable section
namespace Cert.AttnIdeal.Value
open Idealize.ShloMosaic
open Cert.Value (Pt grp col)

variable (a0 : Vec Ideal S8x4096x8192 .fp8e4m3) (a1 : Vec Ideal S8x32x32 .f32) (a2 : Vec Ideal S8x4096x2048 .fp8e4m3)
  (a3 : Vec Ideal S8x32x8 .f32) (a4 : Vec Ideal S8x8x256x4096 .fp8e4m3) (a5 : Vec Ideal S8x32x8 .f32)

/-- What the point of batch `b`, key head `n` and query block `i` reads. -/
def ptAt (b n : Fin 8) (i : Fin 32) : Pt where
  K key d := a2 (ix3 b ⟨key % 4096, by omega⟩ ⟨256 * n.val + d.val, by omega⟩)
  Q c d := a0 (ix3 b ⟨128 * i.val + c.val % 128, by omega⟩ ⟨1024 * n.val + (256 * (c.val / 128) + d.val), by omega⟩)
  V d key := a4 (ix4 b n d ⟨key % 4096, by omega⟩)
  ks jb := a3 (ix3 b ⟨jb % 32, by omega⟩ n)
  vs jb := a5 (ix3 b ⟨jb % 32, by omega⟩ n)
  qr g := a1 (ix3 b i ⟨4 * n.val + g.val, by omega⟩) * Ideal.ofBits .f32 0x3D800000#32
  i := i.val

/-- The place of a result in its point: batch, position, feature of all heads. -/
def atPlace (f : Pt → Fin 256 → Fin 512 → EReal) (b : Fin 8) (s : Fin 4096) (l : Fin 8192) : EReal :=
  f (ptAt a0 a1 a2 a3 a4 a5 b ⟨l.val / 1024, by omega⟩ ⟨s.val / 128, by omega⟩) ⟨l.val % 256, by omega⟩
    (col ⟨l.val % 1024 / 256, by omega⟩ ⟨s.val % 128, by omega⟩)

/-- The result array in the kernel's form. -/
def outArr : Vec Ideal S8x4096x8192 .bf16 := fun y => atPlace a0 a1 a2 a3 a4 a5 Pt.kout (y 0) (y 1) (y 2)

end Cert.AttnIdeal.Value
end
-- ==== Proof.Value.KValue.lean ====
/- The kernel's result array: the pipeline's proof data with the output named, the body obligation, the run and the
   array it leaves, as a function of the argument arrays. -/
module

public import proofs.«01_k».proof.Proof.AttnIdeal.Frame
public import proofs.«01_k».proof.Proof.Value.KBody
public import proofs.«01_k».proof.Proof.Value.Pts
public import Idealize.ShloMosaic.Lib.Pipeline.ValueKit
public import Idealize.ShloMosaic.Lib.StableHlo.ReadAt

@[expose] public section

-- membership in a rectangle of production extents (`View.cover_of_tiled`): the elaborator's structural look
-- recurses once per coordinate of the long axes
set_option maxRecDepth 16384

noncomputable section

namespace Cert.AttnIdeal.Value

open Gen
open Cert.Value (Pt grp col)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- What point `t` reads. -/
abbrev pt (c : Dev nD) (t : Fin cfg0.N) : Pt :=
  ptOf (grid0.coords t) (iblk m c 0 t) (iblk m c 1 t) (iblk m c 2 t) (iblk m c 3 t) (iblk m c 4 t) (iblk m c 5 t)

/-- The scales of keys and queries are positive at every point. -/
def Pos (c : Dev nD) : Prop := ∀ t, (∀ j, 0 < (pt m c t).ks j) ∧ ∀ g, 0 < (pt m c t).qr g

/-- The proof data of the one pipeline on core `c`: the arrays as the region finds them (`V`); after the body at
    point `t` each input's buffer at its block and the output's at the point's attention; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => outBlk (pt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_6 (c : Dev nD) (t : Fin cfg0.N) : (dats m 0 c).after 6 t = outBlk (pt m c t) := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (Hand.ms0_0 t) fullShare ((dats m 0 c).before 0 t d))
    ∗ (∃ d, owns (c : Thread nD τ) (Hand.ms0_1 t) fullShare ((dats m 0 c).before 1 t d))
    ∗ (∃ d, owns (c : Thread nD τ) (Hand.ms0_2 t) fullShare ((dats m 0 c).before 2 t d))
    ∗ (∃ d, owns (c : Thread nD τ) (Hand.ms0_3 t) fullShare ((dats m 0 c).before 3 t d))
    ∗ (∃ d, owns (c : Thread nD τ) (Hand.ms0_4 t) fullShare ((dats m 0 c).before 4 t d))
    ∗ (∃ d, owns (c : Thread nD τ) (Hand.ms0_5 t) fullShare ((dats m 0 c).before 5 t d))
    ∗ (∃ d, owns (c : Thread nD τ) (Hand.ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (Hand.ms0_0 t) fullShare ((dats m 0 c).after 0 t)
    ∗ owns (c : Thread nD τ) (Hand.ms0_1 t) fullShare ((dats m 0 c).after 1 t)
    ∗ owns (c : Thread nD τ) (Hand.ms0_2 t) fullShare ((dats m 0 c).after 2 t)
    ∗ owns (c : Thread nD τ) (Hand.ms0_3 t) fullShare ((dats m 0 c).after 3 t)
    ∗ owns (c : Thread nD τ) (Hand.ms0_4 t) fullShare ((dats m 0 c).after 4 t)
    ∗ owns (c : Thread nD τ) (Hand.ms0_5 t) fullShare ((dats m 0 c).after 5 t)
    ∗ owns (c : Thread nD τ) (Hand.ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (hp : Pos m c) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, Hand.PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ _ _ _ _ (iblk m c 0 t) (iblk m c 1 t) (iblk m c 2 t) (iblk m c 3 t) (iblk m c 4 t) (iblk m c 5 t) (hp t).1 (hp t).2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: the body's triple restated (Lib/Pipeline/FrameBody.lean `triple_restated`). -/
theorem body_obligation (c : Dev nD) (hp : Pos m c) : BodyObligation (dats m 0 c) (defs₀ (F := Ideal)) Variants.none () Set.univ := fun t => by
  rw [bigSep_W0, bigSep_W0, Hand.defs₀_row]
  exact triple_restated (sound_body m c hp t) rfl .rfl fun _ => .rfl

/-! ## The blocks as parts of the arguments -/

/-- The array of an argument of the launch. -/
abbrev arg (c : Dev nD) (b : Ref sig .tc) : Buf (Elt Ideal) ((c.tc : Thread nD τ).loc b) := m ((c.tc : Thread nD τ).loc b)

theorem toNat_coord (v n : ℕ) (h : v < n) (hn : n ≤ 2 ^ 32) : (BitVec.ofNat 32 v).toNat = v := by
  rw [BitVec.toNat_ofNat, Nat.mod_eq_of_lt (by omega)]

theorem coord0_lt (i : grid0.Coords) : (i 0).val < 8 := (i 0).isLt
theorem coord1_lt (i : grid0.Coords) : (i 1).val < 8 := (i 1).isLt
theorem coord2_lt (i : grid0.Coords) : (i 2).val < 32 := (i 2).isLt

/-- The scales as the launch reshapes them. -/
theorem V_v0 (c : Dev nD) (b : Fin 8) (l : Fin 1024) (i : Fin 32) (h : Fin 32) (hl : l.val = 32 * i.val + h.val) :
    V m c main_v0 (ix2 b l) = arg m c main_arg1 (ix3 b i h) := by
  unfold V
  after_reads_at
  refine congrArg (arg m c main_arg1) (funext fun a => Fin.ext ?_)
  match a with
  | ⟨0, _⟩ => rfl
  | ⟨1, _⟩ => show l.val / 32 = i.val; omega
  | ⟨2, _⟩ => show l.val % 32 = h.val; omega
theorem V_v1 (c : Dev nD) (b : Fin 8) (l : Fin 256) (i : Fin 32) (h : Fin 8) (hl : l.val = 8 * i.val + h.val) :
    V m c main_v1 (ix2 b l) = arg m c main_arg3 (ix3 b i h) := by
  unfold V
  after_reads_at
  refine congrArg (arg m c main_arg3) (funext fun a => Fin.ext ?_)
  match a with
  | ⟨0, _⟩ => rfl
  | ⟨1, _⟩ => show l.val / 8 = i.val; omega
  | ⟨2, _⟩ => show l.val % 8 = h.val; omega
theorem V_v2 (c : Dev nD) (b : Fin 8) (l : Fin 256) (i : Fin 32) (h : Fin 8) (hl : l.val = 8 * i.val + h.val) :
    V m c main_v2 (ix2 b l) = arg m c main_arg5 (ix3 b i h) := by
  unfold V
  after_reads_at
  refine congrArg (arg m c main_arg5) (funext fun a => Fin.ext ?_)
  match a with
  | ⟨0, _⟩ => rfl
  | ⟨1, _⟩ => show l.val / 8 = i.val; omega
  | ⟨2, _⟩ => show l.val % 8 = h.val; omega

theorem pt_eq (c : Dev nD) (t : Fin cfg0.N) : pt m c t
    = ptAt (arg m c main_arg0) (arg m c main_arg1) (arg m c main_arg2) (arg m c main_arg3) (arg m c main_arg4) (arg m c main_arg5)
        ⟨(grid0.coords t 0).val, coord0_lt _⟩ ⟨(grid0.coords t 1).val, coord1_lt _⟩ ⟨(grid0.coords t 2).val, coord2_lt _⟩ := by
  have h0 := coord0_lt (grid0.coords t)
  have h1 := coord1_lt (grid0.coords t)
  have h2 := coord2_lt (grid0.coords t)
  have e0 := toNat_coord _ 8 h0 (by norm_num)
  have e1 := toNat_coord _ 8 h1 (by norm_num)
  have e2 := toNat_coord _ 32 h2 (by norm_num)
  unfold pt ptOf ptAt
  congr 1
  · funext key d
    unfold iblk
    rw [View.read_apply]
    show V m c main_arg2 _ = _
    rw [V_main_arg2]
    refine congrArg (arg m c main_arg2) (funext fun a => Fin.ext ?_)
    match a with
    | ⟨0, _⟩ => show (BitVec.ofNat 32 (grid0.coords t 0).val).toNat * 1 + 1 * 0 = (grid0.coords t 0).val; omega
    | ⟨1, _⟩ => show 0 * 4096 + 1 * (key % 4096) = key % 4096; omega
    | ⟨2, _⟩ => show (BitVec.ofNat 32 (grid0.coords t 1).val).toNat * 256 + 1 * d.val = 256 * (grid0.coords t 1).val + d.val; omega
  · funext q d
    unfold iblk
    rw [View.read_apply]
    show V m c main_arg0 _ = _
    rw [V_main_arg0]
    refine congrArg (arg m c main_arg0) (funext fun a => Fin.ext ?_)
    match a with
    | ⟨0, _⟩ => show (BitVec.ofNat 32 (grid0.coords t 0).val).toNat * 1 + 1 * 0 = (grid0.coords t 0).val; omega
    | ⟨1, _⟩ => show (BitVec.ofNat 32 (grid0.coords t 2).val).toNat * 128 + 1 * (q.val % 128) = 128 * (grid0.coords t 2).val + q.val % 128; omega
    | ⟨2, _⟩ => show (BitVec.ofNat 32 (grid0.coords t 1).val).toNat * 1024 + 1 * (256 * (q.val / 128) + d.val) = 1024 * (grid0.coords t 1).val + (256 * (q.val / 128) + d.val); omega
  · funext d key
    unfold iblk
    rw [View.read_apply]
    show V m c main_arg4 _ = _
    rw [V_main_arg4]
    refine congrArg (arg m c main_arg4) (funext fun a => Fin.ext ?_)
    match a with
    | ⟨0, _⟩ => show (BitVec.ofNat 32 (grid0.coords t 0).val).toNat * 1 + 1 * 0 = (grid0.coords t 0).val; omega
    | ⟨1, _⟩ => show (BitVec.ofNat 32 (grid0.coords t 1).val).toNat * 1 + 1 * 0 = (grid0.coords t 1).val; omega
    | ⟨2, _⟩ => show 0 * 256 + 1 * d.val = d.val; omega
    | ⟨3, _⟩ => show 0 * 4096 + 1 * (key % 4096) = key % 4096; omega
  · funext jb
    refine Eq.trans ?_ (V_v1 m c ⟨(grid0.coords t 0).val, h0⟩ ⟨(8 * jb + (grid0.coords t 1).val) % 256, by omega⟩ ⟨jb % 32, by omega⟩
      ⟨(grid0.coords t 1).val, h1⟩ (by show (8 * jb + (grid0.coords t 1).val) % 256 = 8 * (jb % 32) + (grid0.coords t 1).val; omega))
    unfold iblk
    rw [View.read_apply]
    refine congrArg (V m c main_v1) (funext fun a => Fin.ext ?_)
    match a with
    | ⟨0, _⟩ => show 0 * 8 + 1 * (grid0.coords t 0).val = (grid0.coords t 0).val; omega
    | ⟨1, _⟩ => show 0 * 256 + 1 * ((8 * jb + (grid0.coords t 1).val) % 256) = (8 * jb + (grid0.coords t 1).val) % 256; omega
  · funext jb
    refine Eq.trans ?_ (V_v2 m c ⟨(grid0.coords t 0).val, h0⟩ ⟨(8 * jb + (grid0.coords t 1).val) % 256, by omega⟩ ⟨jb % 32, by omega⟩
      ⟨(grid0.coords t 1).val, h1⟩ (by show (8 * jb + (grid0.coords t 1).val) % 256 = 8 * (jb % 32) + (grid0.coords t 1).val; omega))
    unfold iblk
    rw [View.read_apply]
    refine congrArg (V m c main_v2) (funext fun a => Fin.ext ?_)
    match a with
    | ⟨0, _⟩ => show 0 * 8 + 1 * (grid0.coords t 0).val = (grid0.coords t 0).val; omega
    | ⟨1, _⟩ => show 0 * 256 + 1 * ((8 * jb + (grid0.coords t 1).val) % 256) = (8 * jb + (grid0.coords t 1).val) % 256; omega
  · funext g
    refine congrArg (· * Ideal.ofBits .f32 0x3D800000#32) ?_
    refine Eq.trans ?_ (V_v0 m c ⟨(grid0.coords t 0).val, h0⟩ ⟨(32 * (grid0.coords t 2).val + 4 * (grid0.coords t 1).val + g.val) % 1024, by omega⟩
      ⟨(grid0.coords t 2).val, h2⟩ ⟨4 * (grid0.coords t 1).val + g.val, by omega⟩
      (by show (32 * (grid0.coords t 2).val + 4 * (grid0.coords t 1).val + g.val) % 1024 = 32 * (grid0.coords t 2).val + (4 * (grid0.coords t 1).val + g.val); omega))
    unfold iblk
    rw [View.read_apply]
    refine congrArg (V m c main_v0) (funext fun a => Fin.ext ?_)
    match a with
    | ⟨0, _⟩ => show 0 * 8 + 1 * (grid0.coords t 0).val = (grid0.coords t 0).val; omega
    | ⟨1, _⟩ => show 0 * 1024 + 1 * ((32 * (grid0.coords t 2).val + 4 * (grid0.coords t 1).val + g.val) % 1024) = (32 * (grid0.coords t 2).val + 4 * (grid0.coords t 1).val + g.val) % 1024; omega

/-- The result array ends at the kernel's form of the attention of the arguments. -/
theorem final (c : Dev nD) : (dats m 0 c).arrAt 6 cfg0.N
    = outArr (arg m c main_arg0) (arg m c main_arg1) (arg m c main_arg2) (arg m c main_arg3) (arg m c main_arg4) (arg m c main_arg5) := by
  refine (dats m 0 c).arrAt_eq_of_covers 6 _ (by decide +kernel) fun t hf y => ?_
  have h0 := coord0_lt (grid0.coords t)
  have h1 := coord1_lt (grid0.coords t)
  have h2 := coord2_lt (grid0.coords t)
  have e0 := toNat_coord _ 8 h0 (by norm_num)
  have e1 := toNat_coord _ 8 h1 (by norm_num)
  have e2 := toNat_coord _ 32 h2 (by norm_num)
  blk_simp
  rw [after0_6, pt_eq]
  have hy0 : (y 0).val < 1 := (y 0).isLt
  have hy1 : (y 1).val < 128 := (y 1).isLt
  have hy2 : (y 2).val < 1024 := (y 2).isLt
  have v0 : ((win0_6.blk t).view.emb y 0).val = (grid0.coords t 0).val := by
    show (BitVec.ofNat 32 (grid0.coords t 0).val).toNat * 1 + 1 * (y 0).val = _; omega
  have v1 : ((win0_6.blk t).view.emb y 1).val = 128 * (grid0.coords t 2).val + (y 1).val := by
    show (BitVec.ofNat 32 (grid0.coords t 2).val).toNat * 128 + 1 * (y 1).val = _; omega
  have v2 : ((win0_6.blk t).view.emb y 2).val = 1024 * (grid0.coords t 1).val + (y 2).val := by
    show (BitVec.ofNat 32 (grid0.coords t 1).val).toNat * 1024 + 1 * (y 2).val = _; omega
  unfold outArr atPlace outBlk
  congr 1
  · congr 1
    · exact Fin.ext v0.symm
    · exact Fin.ext (by show (grid0.coords t 1).val = _ / 1024; omega)
    · exact Fin.ext (by show (grid0.coords t 2).val = _ / 128; omega)
  · exact Fin.ext (by show (y 2).val % 256 = _ % 256; omega)
  · congr 1
    · exact Fin.ext (by show (y 2).val / 256 = _ % 1024 / 256; omega)
    · exact Fin.ext (by show (y 1).val = _ % 128; omega)

set_option backward.isDefEq.respectTransparency.types false in
/-- The run: the pipeline's arrays end at the proof data's. -/
theorem run_main (hp : ∀ c, Pos m c) : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c (hp c)).loose) (hshare := fun c => (dats m 0 c).share_full fun _ => rfl)
    (howed := fun _ _ => rfl) (V := V m) (hmain := hmain m Variants.none) (hA := A_eq m) (hΦ := fun _ _ => rfl)

/-- The run, read: the result at the kernel's form of the attention of the arguments, which end unchanged. -/
theorem run (hp : ∀ c, Pos m c) : θ_run defs (onTc (τ := τ) (main (F := Ideal))) ⟨m, fun _ => 0, ρ⟩ (fun r => ∀ c : Dev nD,
      r.2.mem ((c.tc : Thread nD τ).loc main_v3) = outArr (arg m c main_arg0) (arg m c main_arg1) (arg m c main_arg2) (arg m c main_arg3) (arg m c main_arg4) (arg m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run_and ((θ_run defs _ _).mono (fun _ h c => ((h c).1 6).trans (final m c)) (run_main m ρ hp))
    (frame_of m ρ (dats m) (A_eq m) (run_main m ρ hp))).mono fun _ h c => ⟨h.1 c, h.2 c⟩

end Cert.AttnIdeal.Value

end
-- ==== Proof.Value.RPure.lean ====
module

public import proofs.«01_k».proof.Proof.Gen.RefIdeal.Skeleton
public import proofs.«01_k».proof.Proof.Value.Expo
public import Idealize.ShloMosaic.Lib.Pointwise
public import Idealize.ShloMosaic.Lib.IdealHost

/-! # The reference's reductions, contractions and exponent, at an index -/

@[expose] public section
noncomputable section
namespace Cert.RefIdeal.Value
open Gen Idealize.ShloMosaic
open Cert.AttnIdeal.Value (over448 field_le_over448 over448_lt_field select_ofBool ofBits_field)
open Cert.Value (expo clip)

/-! ## Reductions over one axis -/

theorem lift5 {n0 n1 n2 n3 n4 : ℕ} (h : (⟨5, ![n0, n1, n2, n3, n4]⟩ : Shape).Reduces [4] ⟨4, ![n0, n1, n2, n3]⟩)
    (a : Fin n0) (b : Fin n1) (c : Fin n2) (d : Fin n3) (k : Fin n4) :
    h.lift (ix4 a b c d) k = ix5 a b c d k := by
  refine funext fun i => Fin.ext ?_
  match i with
  | ⟨0, _⟩ => rfl
  | ⟨1, _⟩ => rfl
  | ⟨2, _⟩ => rfl
  | ⟨3, _⟩ => rfl
  | ⟨4, _⟩ => rfl

theorem lift6 {n0 n1 n2 n3 n4 n5 : ℕ}
    (h : (⟨6, ![n0, n1, n2, n3, n4, n5]⟩ : Shape).Reduces [4] ⟨5, ![n0, n1, n2, n3, n5]⟩)
    (a : Fin n0) (b : Fin n1) (c : Fin n2) (d : Fin n3) (e : Fin n5) (k : Fin n4) :
    h.lift (ix5 a b c d e) k = ix6 a b c d k e := by
  refine funext fun i => Fin.ext ?_
  match i with
  | ⟨0, _⟩ => rfl
  | ⟨1, _⟩ => rfl
  | ⟨2, _⟩ => rfl
  | ⟨3, _⟩ => rfl
  | ⟨4, _⟩ => rfl
  | ⟨5, _⟩ => rfl

theorem sum5 {n0 n1 n2 n3 n4 : ℕ} (x : FVec Ideal ⟨5, ![n0, n1, n2, n3, n4]⟩ .f32)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < S_.numel)
    (a : Fin n0) (b : Fin n1) (c : Fin n2) (d : Fin n3) :
    Host.reduceAdd x (constant S_ .f32 0#32) h' hu (ix4 a b c d) = ∑ k : Fin n4, x (ix5 a b c d k) := by
  refine (Ideal.hostReduceAdd_single h' h x _ _).trans ?_
  rw [show (constant S_ .f32 0#32 : FVec Ideal S_ .f32) (Shape.Idx.first hu) = 0 from Ideal.ofBits_zero_f32, zero_add]
  exact Finset.sum_congr rfl fun k _ => congrArg x (lift5 h a b c d k)

theorem sum6 {n0 n1 n2 n3 n4 n5 : ℕ} (x : FVec Ideal ⟨6, ![n0, n1, n2, n3, n4, n5]⟩ .f32)
    (h' : (⟨6, ![n0, n1, n2, n3, n4, n5]⟩ : Shape).ReducesTo [4] ⟨5, ![n0, n1, n2, n3, n5]⟩)
    (h : (⟨6, ![n0, n1, n2, n3, n4, n5]⟩ : Shape).Reduces [4] ⟨5, ![n0, n1, n2, n3, n5]⟩) (hu : 0 < S_.numel)
    (a : Fin n0) (b : Fin n1) (c : Fin n2) (d : Fin n3) (e : Fin n5) :
    Host.reduceAdd x (constant S_ .f32 0#32) h' hu (ix5 a b c d e) = ∑ k : Fin n4, x (ix6 a b c d k e) := by
  refine (Ideal.hostReduceAdd_single h' h x _ _).trans ?_
  rw [show (constant S_ .f32 0#32 : FVec Ideal S_ .f32) (Shape.Idx.first hu) = 0 from Ideal.ofBits_zero_f32, zero_add]
  exact Finset.sum_congr rfl fun k _ => congrArg x (lift6 h a b c d e k)

theorem ofBits_negInf : Ideal.ofBits .f32 4286578688#32 = (⊥ : EReal) := by
  simp [Ideal.ofBits, Ideal.ieee]

theorem max5 {n0 n1 n2 n3 n4 : ℕ} (x : FVec Ideal ⟨5, ![n0, n1, n2, n3, n4]⟩ .f32)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < S_.numel)
    (a : Fin n0) (b : Fin n1) (c : Fin n2) (d : Fin n3) :
    Host.reduce FloatOps.maximumf x (constant S_ .f32 4286578688#32) h' hu (ix4 a b c d)
      = Finset.univ.sup fun k : Fin n4 => (x (ix5 a b c d k) : EReal) := by
  have e := Host.reduce_eq_fold_single (f := (max : EReal → EReal → EReal)) x
    (constant S_ .f32 4286578688#32 : FVec Ideal S_ .f32) h' h hu (ix4 a b c d)
  refine e.trans ?_
  rw [show (constant S_ .f32 4286578688#32 : FVec Ideal S_ .f32) (Shape.Idx.first hu) = (⊥ : EReal) from ofBits_negInf]
  exact Finset.fold_congr fun k _ => congrArg x (lift5 h a b c d k)

/-! ## Contractions -/

set_option maxHeartbeats 1000000 in
theorem dot1 (l : FVec Ideal S8x4096x8x256 .f32) (r : FVec Ideal S8x4096x8x4x256 .f32) (b n : Fin 8) (k q : Fin 4096) (g : Fin 4) :
    Host.dotGeneral dot_S8x4096x8x256_S8x4096x8x4x256_S8x8x4096x4096x4_3_4_1_13_02_02 none l r (ix5 b n k q g)
      = ∑ d : Fin 256, (l (ix4 b k n d) : EReal) * r (ix5 b q n g d) := by
  pointwise

set_option maxHeartbeats 1000000 in
theorem dot2 (l : FVec Ideal S8x8x256x32x128 .f32) (r : FVec Ideal S8x8x4x4096x32x128 .f32) (b n : Fin 8) (jb : Fin 32)
    (d : Fin 256) (g : Fin 4) (q : Fin 4096) :
    Host.dotGeneral dot_S8x8x256x32x128_S8x8x4x4096x32x128_S8x8x32x256x4x4096_4_5_2_23_013_014 none l r (ix6 b n jb d g q)
      = ∑ kk : Fin 128, (l (ix5 b n d jb kk) : EReal) * r (ix6 b n g q jb kk) := by
  pointwise

/-! ## The exponent -/

/-- The word of 2 to a power, by the host's `pow`. -/
theorem pow_two (x : ℝ) : Ideal.pow (Ideal.ofBits .f32 0x40000000#32) (x : EReal) = ((2 : ℝ) ^ x : ℝ) := by
  rw [show Ideal.ofBits .f32 0x40000000#32 = ((2 : ℝ) : EReal) by simp [Ideal.ofBits, Ideal.ieee, -EReal.coe_mul]; norm_num]
  rfl

/-- The power of two the reference compares with. -/
theorem power_eq (k : Fin 254) :
    Ideal.pow (Ideal.ofBits .f32 0x40000000#32) (Ideal.ofBits .f32 3271294976#32 + (((BitVec.ofNat 32 k.val).toInt : ℝ) : EReal))
      = (((2 : ℝ) ^ (((k.val + 1 : ℕ) : ℤ) - 127) : ℝ) : EReal) := by
  have hi : (BitVec.ofNat 32 k.val).toInt = (k.val : ℤ) := by
    have h : ∀ k : Fin 254, (BitVec.ofNat 32 k.val).toInt = (k.val : ℤ) := by decide +kernel
    exact h k
  rw [hi, show Ideal.ofBits .f32 3271294976#32 = ((-126 : ℝ) : EReal) by simp [Ideal.ofBits, Ideal.ieee, -EReal.coe_mul]; norm_num,
    ← EReal.coe_add, pow_two, ← Real.rpow_intCast]
  congr 2
  push_cast
  ring

/-- The powers of two up to one over 448 are the first 118. -/
theorem count_eq : (∑ k : Fin 254, if (((2 : ℝ) ^ (((k.val + 1 : ℕ) : ℤ) - 127) : ℝ) : EReal) ≤ over448 then (1 : EReal) else 0) = 118 := by
  have h : ∀ k : Fin 254, (if (((2 : ℝ) ^ (((k.val + 1 : ℕ) : ℤ) - 127) : ℝ) : EReal) ≤ over448 then (1 : EReal) else 0)
      = if k.val < 118 then 1 else 0 := fun k => by
    by_cases hk : k.val < 118
    · rw [if_pos (field_le_over448 _ (by omega)), if_pos hk]
    · rw [if_neg (not_le.mpr (over448_lt_field _ (by omega))), if_neg hk]
  rw [Finset.sum_congr rfl fun k _ => h k, Finset.sum_boole,
    show (Finset.univ.filter fun k : Fin 254 => k.val < 118).card = 118 by decide +kernel]
  rfl

/-! ## The stages' values -/

/-- The weight of a key at a query: e to its score less the largest score. -/
def wt (X : FVec Ideal S8x8x4x4096x4096 .f32) (b n : Fin 8) (g : Fin 4) (q k : Fin 4096) : EReal :=
  Ideal.exp ((X (ix5 b n g q k) : EReal) - Finset.univ.sup fun k' : Fin 4096 => (X (ix5 b n g q k') : EReal))
/-- The largest weight of a block of queries. -/
def amax (X : FVec Ideal S8x8x4x4096x4096 .f32) (b n : Fin 8) (g : Fin 4) (i : Fin 32) : EReal :=
  Finset.univ.sup fun r : Fin 128 => Finset.univ.sup fun k : Fin 4096 =>
    max (wt X b n g ⟨i.val * 128 + r.val, by omega⟩ k) (-wt X b n g ⟨i.val * 128 + r.val, by omega⟩ k)

/-- The masked score of a key at a query, from the widened queries and keys and their scales. -/
def score (qa : FVec Ideal S8x4096x8192 .f32) (ka : FVec Ideal S8x4096x2048 .f32) (a1 : FVec Ideal S8x32x32 .f32)
    (a3 : FVec Ideal S8x32x8 .f32) (b n : Fin 8) (g : Fin 4) (q k : Fin 4096) : EReal :=
  if k.val ≤ q.val then
    ((∑ d : Fin 256, (ka (ix3 b k ⟨n.val * 256 + d.val, by omega⟩) : EReal)
        * qa (ix3 b q ⟨n.val * 1024 + g.val * 256 + d.val, by omega⟩))
      * ((a1 (ix3 b ⟨q.val / 128, by omega⟩ ⟨n.val * 4 + g.val, by omega⟩) : EReal) * Ideal.ofBits .f32 0x3D800000#32))
      * a3 (ix3 b ⟨k.val / 128, by omega⟩ n)
  else ⊥

theorem fold_max {n : ℕ} (f : Fin n → EReal) :
    Finset.univ.fold max (Ideal.ofBits .f32 4286578688#32) f = Finset.univ.sup f := by
  rw [ofBits_negInf]; rfl

/-- The quantised product with the values, from the widened values and their scales, the weights,
their sums and the exponents. -/
def qout (va : FVec Ideal S8x8x256x4096 .f32) (W : FVec Ideal S8x8x4x4096x4096 .f32) (L : FVec Ideal S8x8x4x4096 .f32)
    (E : FVec Ideal S8x8x4x32 .f32) (a5 : FVec Ideal S8x32x8 .f32) (b : Fin 8) (s : Fin 4096) (l : Fin 8192) : EReal :=
  (∑ jb : Fin 32, (∑ kk : Fin 128,
      (va (ix4 b ⟨l.val / 1024, by omega⟩ ⟨l.val % 256, by omega⟩ ⟨jb.val * 128 + kk.val, by omega⟩) : EReal)
      * clip ((W (ix5 b ⟨l.val / 1024, by omega⟩ ⟨l.val / 256 % 4, by omega⟩ s ⟨jb.val * 128 + kk.val, by omega⟩) : EReal)
        * Ideal.pow (Ideal.ofBits .f32 0x40000000#32)
          (-(E (ix4 b ⟨l.val / 1024, by omega⟩ ⟨l.val / 256 % 4, by omega⟩ ⟨s.val / 128, by omega⟩) : EReal))))
      * (a5 (ix3 b jb ⟨l.val / 1024, by omega⟩) : EReal))
    * Ideal.div (Ideal.pow (Ideal.ofBits .f32 0x40000000#32)
        (E (ix4 b ⟨l.val / 1024, by omega⟩ ⟨l.val / 256 % 4, by omega⟩ ⟨s.val / 128, by omega⟩)))
      (L (ix4 b ⟨l.val / 1024, by omega⟩ ⟨l.val / 256 % 4, by omega⟩ s))

end Cert.RefIdeal.Value
end
-- ==== Proof.Value.RTail.lean ====
module

public import proofs.«01_k».proof.Proof.Gen.RefIdeal.Frame
public import proofs.«01_k».proof.Proof.Value.RPure
public import Idealize.ShloMosaic.Lib.StableHlo.ReadAt

/-! # The reference's three stages, at an index

The scores; the weights, their sums and the quantiser's exponent; the quantised product with the
values.  `V` is what the buffers hold before the stage. -/

@[expose] public section
set_option maxRecDepth 16384
noncomputable section
namespace Cert.RefIdeal.Value
open Gen
open Idealize.ShloMosaic Idealize.ShloMosaic.TcCoe
open Cert.AttnIdeal.Value (over448 over448_pos select_ofBool)
open Cert.Value (clip expo)

variable (V : Valuation τ sig (Elt Ideal))

theorem score_at (b n : Fin 8) (g : Fin 4) (q k : Fin 4096) :
    StableHlo.after (hostOps1 ++ hostOps1_1) V (Proc.devRef .tc main_v25) (ix5 b n g q k)
      = score (V (Proc.devRef .tc main_v0_0)) (V (Proc.devRef .tc main_v0_1)) (V (Proc.devRef .tc main_arg1))
          (V (Proc.devRef .tc main_arg3)) b n g q k := by
  have hc : IntOp.cmpi .sle (BitVec.ofNat 32 k.val) (BitVec.ofNat 32 q.val) = BitVec.ofBool (decide (k.val ≤ q.val)) := by
    have hk := k.isLt
    have hq := q.isLt
    simp only [IntOp.cmpi]
    congr 1
    rw [BitVec.sle_eq_decide, decide_eq_decide, BitVec.toInt_eq_toNat_of_lt (by simp; omega), BitVec.toInt_eq_toNat_of_lt (by simp; omega)]
    simp only [BitVec.toNat_ofNat, Int.ofNat_le]
    omega
  have key : ∀ x y : EReal, y = ⊥ →
      Scalar.select (IntOp.cmpi .sle (BitVec.ofNat 32 k.val) (BitVec.ofNat 32 q.val)) x y = if k.val ≤ q.val then x else ⊥ :=
    fun x y hy => by rw [hc, select_ofBool, hy]
  after_reads_at
  exact key _ _ ofBits_negInf

theorem wt_at (b n : Fin 8) (g : Fin 4) (q k : Fin 4096) :
    StableHlo.after (hostOps1_2 ++ (hostOps1_3 ++ (hostOps1_4 ++ hostOps1_5))) V (Proc.devRef .tc main_v30) (ix5 b n g q k)
      = wt (V (Proc.devRef .tc main_v25)) b n g q k := by
  after_reads_at
  rw [fold_max]
  rfl

theorem sum_at (b n : Fin 8) (g : Fin 4) (q : Fin 4096) :
    StableHlo.after (hostOps1_2 ++ (hostOps1_3 ++ (hostOps1_4 ++ hostOps1_5))) V (Proc.devRef .tc main_v31) (ix4 b n g q)
      = ∑ k : Fin 4096, wt (V (Proc.devRef .tc main_v25)) b n g q k := by
  after_reads_at
  rw [fold_max]
  rfl

end Cert.RefIdeal.Value
end
-- ==== Proof.Value.RExp.lean ====
module

public import proofs.«01_k».proof.Proof.Gen.RefIdeal.Frame
public import proofs.«01_k».proof.Proof.Value.RPure
public import Idealize.ShloMosaic.Lib.StableHlo.ReadAt

/-! # The quantiser's exponent in the reference -/

@[expose] public section
set_option maxRecDepth 16384
noncomputable section
namespace Cert.RefIdeal.Value
open Gen
open Idealize.ShloMosaic Idealize.ShloMosaic.TcCoe
open Cert.AttnIdeal.Value (over448 over448_pos select_ofBool)
open Cert.Value (clip expo)

variable (V : Valuation τ sig (Elt Ideal))

theorem amax_at (b n : Fin 8) (g : Fin 4) (i : Fin 32) :
    StableHlo.after hostOps1_2 V (Proc.devRef .tc main_v35) (ix4 b n g i) = amax (V (Proc.devRef .tc main_v25)) b n g i := by
  after_reads_at
  simp only [fold_max]
  rfl

theorem test_at (b n : Fin 8) (g : Fin 4) (i : Fin 32) (x : Fin 254) :
    StableHlo.after hostOps1_2 V (Proc.devRef .tc main_v47) (ix5 b n g i x)
      = BitVec.ofBool (decide ((((2 : ℝ) ^ (((x.val + 1 : ℕ) : ℤ) - 127) : ℝ) : EReal)
          ≤ amax (V (Proc.devRef .tc main_v25)) b n g i * over448)) := by
  after_reads_at
  simp only [fold_max]
  rw [← power_eq x]
  rfl

theorem one_at : StableHlo.after hostOps1_2 V (Proc.devRef .tc main_cst_8) ix0 = (1 : EReal) := by
  after_reads_at
theorem zero_at : StableHlo.after hostOps1_2 V (Proc.devRef .tc main_cst_9) ix0 = (0 : EReal) := by
  after_reads_at

theorem expo_of (b n : Fin 8) (g : Fin 4) (i : Fin 32) (a : EReal) (t : Fin 254 → BitVec 1)
    (ha : V (Proc.devRef .tc main_v35) (ix4 b n g i) = a) (ht : ∀ x, V (Proc.devRef .tc main_v47) (ix5 b n g i x) = t x)
    (h1 : V (Proc.devRef .tc main_cst_8) ix0 = (1 : EReal)) (h0 : V (Proc.devRef .tc main_cst_9) ix0 = (0 : EReal)) :
    StableHlo.after (hostOps1_3 ++ (hostOps1_4 ++ hostOps1_5)) V (Proc.devRef .tc main_v55) (ix4 b n g i)
      = if a = 0 then (0 : EReal) else (∑ x : Fin 254, Scalar.select (t x) (1 : EReal) 0) - ((126 : ℝ) : EReal) := by
  after_reads_at
  rw [ha]
  refine if_congr Iff.rfl Ideal.ofBits_zero_f32 (congrArg₂ (fun x y : EReal => x - y) (Finset.sum_congr rfl fun x _ => ?_) ?_)
  · show Scalar.select (V (Proc.devRef .tc main_v47) (ix5 b n g i x)) _ _ = _
    rw [ht]
    refine congrArg₂ (Scalar.select (t x)) (Eq.trans ?_ h1) (Eq.trans ?_ h0)
    · exact congrArg (V (Proc.devRef .tc main_cst_8)) (funext fun a => a.elim0)
    · exact congrArg (V (Proc.devRef .tc main_cst_9)) (funext fun a => a.elim0)
  · simp [Ideal.ofBits, Ideal.ieee, -EReal.coe_mul]; norm_num

/-- The exponent the reference quantises with, where the largest weight is 0 or 1. -/
theorem expo_at (b n : Fin 8) (g : Fin 4) (i : Fin 32)
    (hA : amax (V (Proc.devRef .tc main_v25)) b n g i = 0 ∨ amax (V (Proc.devRef .tc main_v25)) b n g i = 1) :
    StableHlo.after (hostOps1_2 ++ (hostOps1_3 ++ (hostOps1_4 ++ hostOps1_5))) V (Proc.devRef .tc main_v55) (ix4 b n g i)
      = ((expo (amax (V (Proc.devRef .tc main_v25)) b n g i) : ℝ) : EReal) := by
  rw [StableHlo.after_append,
    expo_of _ b n g i _ _ (amax_at V b n g i) (test_at V b n g i) (one_at V) (zero_at V)]
  rcases hA with h | h <;> rw [h]
  · rw [if_pos rfl, expo, if_pos rfl]; rfl
  · rw [if_neg one_ne_zero, expo, if_neg one_ne_zero, one_mul]
    simp only [select_ofBool]
    rw [count_eq]
    exact (EReal.coe_sub 118 126).symm.trans (congrArg _ (by norm_num))

end Cert.RefIdeal.Value
end
-- ==== Proof.Value.ROut.lean ====
module

public import proofs.«01_k».proof.Proof.Gen.RefIdeal.Frame
public import proofs.«01_k».proof.Proof.Value.RPure
public import Idealize.ShloMosaic.Lib.StableHlo.ReadAt
public import Idealize.ShloMosaic.Lib.Tactic.CleanTypes

/-! # The reference's result from its weights, their sums and the exponents -/

@[expose] public section
set_option maxRecDepth 16384
noncomputable section
namespace Cert.RefIdeal.Value
open Gen
open Idealize.ShloMosaic Idealize.ShloMosaic.TcCoe
open Cert.AttnIdeal.Value (over448 over448_pos select_ofBool)
open Cert.Value (clip expo)

variable (V : Valuation τ sig (Elt Ideal))

theorem red_blocks : S8x8x4x4096x32x256.Reduces [4] S8x8x4x4096x256 := by decide

theorem out_at (b : Fin 8) (s : Fin 4096) (l : Fin 8192) :
    StableHlo.after (hostOps1_6 ++ (hostOps1_7 ++ hostOps1_8)) V (Proc.devRef .tc main_v86) (ix3 b s l)
      = qout (V (Proc.devRef .tc main_v0_2)) (V (Proc.devRef .tc main_v30)) (V (Proc.devRef .tc main_v31))
          (V (Proc.devRef .tc main_v55)) (V (Proc.devRef .tc main_arg5)) b s l := by
  after_reads_at
  refine congrArg₂ (fun x y : EReal => x * y) ?_ rfl
  refine (Ideal.hostReduceAdd_single _ red_blocks _ _ _).trans ?_
  rw [zero_add]
  refine Finset.sum_congr rfl fun jb _ => ?_
  refine (congrArg _ (lift6 red_blocks b ⟨l.val / 1024, by omega⟩ ⟨l.val / 256 % 4, by omega⟩ s ⟨l.val % 256, by omega⟩ jb)).trans ?_
  clean_types
  pointwise
  rfl

end Cert.RefIdeal.Value
end
-- ==== Proof.Value.RWiden.lean ====
module

public import proofs.«01_k».proof.Proof.Gen.RefIdeal.Frame
public import Idealize.ShloMosaic.Lib.Pointwise
public import Idealize.ShloMosaic.Lib.Pipeline.ValueKit

/-! # The reference's widened codes

Over the real numbers the widened arrays are the arguments. -/

@[expose] public section
set_option maxRecDepth 16384
noncomputable section
namespace Cert.RefIdeal.Value
open Gen
open Idealize.ShloMosaic Idealize.ShloMosaic.TcCoe Idealize.ShloMosaic.Pipeline

variable (m : (ℓ : Loc nD τ sig) → Buf (Elt Ideal) ℓ) (c : Dev nD)

theorem wide_q (i : S8x4096x8192.Idx) :
    (dats m 0 c).arrAt 3 cfg0.N i = (m ((c.tc : Thread nD τ).loc main_arg0) i : EReal) := by
  obtain ⟨t, ht⟩ : ∃ t : Fin cfg0.N, (cfg0.win 3).WholeAt t := ⟨⟨0, by decide⟩, by decide +kernel⟩
  refine ((dats m 0 c).arrAt_emb_eq_after_last 3 t ht i).trans ?_
  blk_simp
  rw [after0_3]
  unfold out0_3
  frame_out
  pointwise [k0_pay1]
  unfold iblk
  blk_simp
  refine congrArg (m ((c.tc : Thread nD τ).loc main_arg0)) (funext fun a => Fin.ext ?_)
  match a with
  | ⟨0, _⟩ => show 0 * 8 + 1 * (i 0).val = (i 0).val; omega
  | ⟨1, _⟩ => show 0 * 4096 + 1 * (i 1).val = (i 1).val; omega
  | ⟨2, _⟩ => show 0 * 8192 + 1 * (i 2).val = (i 2).val; omega

theorem wide_k (i : S8x4096x2048.Idx) :
    (dats m 0 c).arrAt 4 cfg0.N i = (m ((c.tc : Thread nD τ).loc main_arg2) i : EReal) := by
  obtain ⟨t, ht⟩ : ∃ t : Fin cfg0.N, (cfg0.win 4).WholeAt t := ⟨⟨0, by decide⟩, by decide +kernel⟩
  refine ((dats m 0 c).arrAt_emb_eq_after_last 4 t ht i).trans ?_
  blk_simp
  rw [after0_4]
  unfold out0_4
  frame_out
  pointwise [k0_pay2]
  unfold iblk
  blk_simp
  refine congrArg (m ((c.tc : Thread nD τ).loc main_arg2)) (funext fun a => Fin.ext ?_)
  match a with
  | ⟨0, _⟩ => show 0 * 8 + 1 * (i 0).val = (i 0).val; omega
  | ⟨1, _⟩ => show 0 * 4096 + 1 * (i 1).val = (i 1).val; omega
  | ⟨2, _⟩ => show 0 * 2048 + 1 * (i 2).val = (i 2).val; omega

theorem wide_v (i : S8x8x256x4096.Idx) :
    (dats m 0 c).arrAt 5 cfg0.N i = (m ((c.tc : Thread nD τ).loc main_arg4) i : EReal) := by
  obtain ⟨t, ht⟩ : ∃ t : Fin cfg0.N, (cfg0.win 5).WholeAt t := ⟨⟨0, by decide⟩, by decide +kernel⟩
  refine ((dats m 0 c).arrAt_emb_eq_after_last 5 t ht i).trans ?_
  blk_simp
  rw [after0_5]
  unfold out0_5
  frame_out
  pointwise [k0_pay3]
  unfold iblk
  blk_simp
  refine congrArg (m ((c.tc : Thread nD τ).loc main_arg4)) (funext fun a => Fin.ext ?_)
  match a with
  | ⟨0, _⟩ => show 0 * 8 + 1 * (i 0).val = (i 0).val; omega
  | ⟨1, _⟩ => show 0 * 8 + 1 * (i 1).val = (i 1).val; omega
  | ⟨2, _⟩ => show 0 * 256 + 1 * (i 2).val = (i 2).val; omega
  | ⟨3, _⟩ => show 0 * 4096 + 1 * (i 3).val = (i 3).val; omega

end Cert.RefIdeal.Value
end
-- ==== Proof.Value.RPoint.lean ====
module

public import proofs.«01_k».proof.Proof.Value.RPure
public import proofs.«01_k».proof.Proof.Value.Pts

/-! # The reference's stages as the attention of a point

A query's head and its position name a column of a point of the kernel's grid: the reference's
scores, weights and result there are the point's. -/

@[expose] public section
noncomputable section
namespace Cert.RefIdeal.Value
open Idealize.ShloMosaic
open Cert.AttnIdeal.Value (ptAt atPlace)
open Cert.Value (Pt grp col grp_col clip expo scl inv inv_eq)

variable (a0 : Vec Ideal S8x4096x8192 .fp8e4m3) (a1 : Vec Ideal S8x32x32 .f32) (a2 : Vec Ideal S8x4096x2048 .fp8e4m3)
  (a3 : Vec Ideal S8x32x8 .f32) (a4 : Vec Ideal S8x8x256x4096 .fp8e4m3) (a5 : Vec Ideal S8x32x8 .f32)

/-- The point of a query position. -/
abbrev ptOfPos (b n : Fin 8) (q : Fin 4096) : Pt := ptAt a0 a1 a2 a3 a4 a5 b n ⟨q.val / 128, by omega⟩
/-- The column of a head and a query position. -/
abbrev colOf (g : Fin 4) (q : Fin 4096) : Fin 512 := col g ⟨q.val % 128, by omega⟩

theorem score_eq (qa : FVec Ideal S8x4096x8192 .f32) (ka : FVec Ideal S8x4096x2048 .f32)
    (hq : ∀ i, qa i = (a0 i : EReal)) (hk : ∀ i, ka i = (a2 i : EReal)) (b n : Fin 8) (g : Fin 4) (q k : Fin 4096) :
    score qa ka a1 a3 b n g q k = (ptOfPos a0 a1 a2 a3 a4 a5 b n q).rs k.val (colOf g q) := by
  have hg := g.isLt
  have hr : q.val % 128 < 128 := Nat.mod_lt _ (by norm_num)
  unfold score Pt.rs
  simp only [grp_col]
  refine if_congr ?_ (congrArg₂ (fun x y : EReal => x * y) (congrArg₂ (fun x y : EReal => x * y)
    (Finset.sum_congr rfl fun d _ => congrArg₂ (fun x y : EReal => x * y) ((hk _).trans ?_) ((hq _).trans ?_)) ?_) ?_) rfl
  · show k.val ≤ q.val ↔ k.val ≤ 128 * (q.val / 128) + (128 * g.val + q.val % 128) % 128
    omega
  · refine congrArg (a2 : S8x4096x2048.Idx → EReal) (funext fun a => Fin.ext ?_)
    match a with
    | ⟨0, _⟩ => rfl
    | ⟨1, _⟩ => show k.val = k.val % 4096; omega
    | ⟨2, _⟩ => show n.val * 256 + d.val = 256 * n.val + d.val; omega
  · refine congrArg (a0 : S8x4096x8192.Idx → EReal) (funext fun a => Fin.ext ?_)
    match a with
    | ⟨0, _⟩ => rfl
    | ⟨1, _⟩ => show q.val = 128 * (q.val / 128) + (128 * g.val + q.val % 128) % 128; omega
    | ⟨2, _⟩ => show n.val * 1024 + g.val * 256 + d.val = 1024 * n.val + (256 * ((128 * g.val + q.val % 128) / 128) + d.val); omega
  · refine congrArg (fun i => (a1 i : EReal) * Ideal.ofBits .f32 0x3D800000#32) (funext fun a => Fin.ext ?_)
    match a with
    | ⟨0, _⟩ => rfl
    | ⟨1, _⟩ => rfl
    | ⟨2, _⟩ => show n.val * 4 + g.val = 4 * n.val + g.val; omega
  · refine congrArg (a3 : S8x32x8.Idx → EReal) (funext fun a => Fin.ext ?_)
    match a with
    | ⟨0, _⟩ => rfl
    | ⟨1, _⟩ => show k.val / 128 = k.val / 128 % 32; omega
    | ⟨2, _⟩ => rfl

variable (X : FVec Ideal S8x8x4x4096x4096 .f32)

theorem wt_eq (hX : ∀ b n g q k, X (ix5 b n g q k) = (ptOfPos a0 a1 a2 a3 a4 a5 b n q).rs k.val (colOf g q))
    (b n : Fin 8) (g : Fin 4) (q k : Fin 4096) :
    wt X b n g q k = (ptOfPos a0 a1 a2 a3 a4 a5 b n q).rp k.val (colOf g q) := by
  unfold wt Pt.rp Pt.rm
  simp only [hX]

theorem amax_eq (hX : ∀ b n g q k, X (ix5 b n g q k) = (ptOfPos a0 a1 a2 a3 a4 a5 b n q).rs k.val (colOf g q))
    (b n : Fin 8) (g : Fin 4) (i : Fin 32) : amax X b n g i = (ptAt a0 a1 a2 a3 a4 a5 b n i).ra g := by
  unfold amax Pt.ra
  refine Finset.sup_congr rfl fun r _ => Finset.sup_congr rfl fun k _ => ?_
  have hr := r.isLt
  have e : wt X b n g ⟨i.val * 128 + r.val, by omega⟩ k = (ptAt a0 a1 a2 a3 a4 a5 b n i).rp k.val (col g r) := by
    rw [wt_eq a0 a1 a2 a3 a4 a5 X hX]
    refine congrArg₂ (fun (j : Fin 32) (s : Fin 128) => (ptAt a0 a1 a2 a3 a4 a5 b n j).rp k.val (col g s)) (Fin.ext ?_) (Fin.ext ?_)
    · show (i.val * 128 + r.val) / 128 = i.val; omega
    · show (i.val * 128 + r.val) % 128 = r.val; omega
  rw [e]

theorem pow_neg_expo (a : EReal) : Ideal.pow (Ideal.ofBits .f32 0x40000000#32) (-((expo a : ℝ) : EReal)) = ((inv a : ℝ) : EReal) := by
  rw [← EReal.coe_neg, pow_two, inv_eq]
theorem pow_expo (a : EReal) : Ideal.pow (Ideal.ofBits .f32 0x40000000#32) ((expo a : ℝ) : EReal) = ((scl a : ℝ) : EReal) := by
  rw [pow_two]
  congr 1
  unfold expo scl
  split
  · exact Real.rpow_zero _
  · rw [Real.rpow_neg (by norm_num), show (8 : ℝ) = ((8 : ℕ) : ℝ) by norm_num, Real.rpow_natCast]; norm_num

theorem qout_eq (va : FVec Ideal S8x8x256x4096 .f32) (W : FVec Ideal S8x8x4x4096x4096 .f32) (L : FVec Ideal S8x8x4x4096 .f32)
    (E : FVec Ideal S8x8x4x32 .f32) (hv : ∀ i, va i = (a4 i : EReal))
    (hW : ∀ b n g q k, W (ix5 b n g q k) = (ptOfPos a0 a1 a2 a3 a4 a5 b n q).rp k.val (colOf g q))
    (hL : ∀ b n g q, L (ix4 b n g q) = ∑ k : Fin 4096, (ptOfPos a0 a1 a2 a3 a4 a5 b n q).rp k.val (colOf g q))
    (hE : ∀ b n g i, E (ix4 b n g i) = ((expo ((ptAt a0 a1 a2 a3 a4 a5 b n i).ra g) : ℝ) : EReal))
    (b : Fin 8) (s : Fin 4096) (l : Fin 8192) :
    qout va W L E a5 b s l = atPlace a0 a1 a2 a3 a4 a5 Pt.rout b s l := by
  have hg : (⟨l.val % 1024 / 256, by omega⟩ : Fin 4) = ⟨l.val / 256 % 4, by omega⟩ := Fin.ext (by show l.val % 1024 / 256 = l.val / 256 % 4; omega)
  unfold qout atPlace Pt.rout
  rw [hE, hL, pow_neg_expo, pow_expo, hg, grp_col]
  refine congrArg₂ (fun x y : EReal => x * y) (Finset.sum_congr rfl fun jb _ => congrArg₂ (fun x y : EReal => x * y)
    (Finset.sum_congr rfl fun kk _ => ?_) ?_) rfl
  · have hj := jb.isLt
    have hk := kk.isLt
    rw [mul_comm, hW, hv]
    refine congrArg₂ (fun x y : EReal => x * y) ?_ (congrArg (a4 : S8x8x256x4096.Idx → EReal) (funext fun a => Fin.ext ?_))
    · show clip (Pt.rp _ (jb.val * 128 + kk.val) _ * _) = _
      rw [Nat.mul_comm jb.val 128]
    · match a with
      | ⟨0, _⟩ => rfl
      | ⟨1, _⟩ => rfl
      | ⟨2, _⟩ => rfl
      | ⟨3, _⟩ => show jb.val * 128 + kk.val = (128 * jb.val + kk.val) % 4096; omega
  · refine congrArg (a5 : S8x32x8.Idx → EReal) (funext fun a => Fin.ext ?_)
    match a with
    | ⟨0, _⟩ => rfl
    | ⟨1, _⟩ => show jb.val = jb.val % 32; omega
    | ⟨2, _⟩ => rfl

end Cert.RefIdeal.Value
end
-- ==== Proof.Value.RValue.lean ====
module

public import proofs.«01_k».proof.Proof.Value.RTail
public import proofs.«01_k».proof.Proof.Value.RExp
public import proofs.«01_k».proof.Proof.Value.ROut
public import proofs.«01_k».proof.Proof.Value.RWiden
public import proofs.«01_k».proof.Proof.Value.RPoint

/-! # The reference's result array

The three stages put together: the result is the reference's form of the attention of the
arguments. -/

@[expose] public section
set_option maxRecDepth 16384
noncomputable section
namespace Cert.RefIdeal.Value
open Gen
open Idealize.ShloMosaic Idealize.ShloMosaic.TcCoe
open Cert.AttnIdeal.Value (ptAt atPlace)
open Cert.Value (Pt col expo)

/-- The result array in the reference's form. -/
def refArr (a0 : Vec Ideal S8x4096x8192 .fp8e4m3) (a1 : Vec Ideal S8x32x32 .f32) (a2 : Vec Ideal S8x4096x2048 .fp8e4m3)
    (a3 : Vec Ideal S8x32x8 .f32) (a4 : Vec Ideal S8x8x256x4096 .fp8e4m3) (a5 : Vec Ideal S8x32x8 .f32) :
    Vec Ideal S8x4096x8192 .bf16 :=
  fun y => atPlace a0 a1 a2 a3 a4 a5 Pt.rout (y 0) (y 1) (y 2)

section Stages
variable (V : Valuation τ sig (Elt Ideal))

/-- A buffer the first stage does not write. -/
theorem keep1 (r : Ref sig .tc) (h0 : r ∉ hostOps1_W) (h1 : r ∉ hostOps1_1_W) :
    StableHlo.after (hostOps1 ++ hostOps1_1) V (Proc.devRef .tc r) = V (Proc.devRef .tc r) := by
  rw [StableHlo.after_append, StableHlo.after_of_writes_sub (r := r) hostOps1_1 _ hostOps1_1_writes h1,
    StableHlo.after_of_writes_sub (r := r) hostOps1 _ hostOps1_writes h0]
/-- A buffer the second stage does not write. -/
theorem keep2 (r : Ref sig .tc) (h2 : r ∉ hostOps1_2_W) (h3 : r ∉ hostOps1_3_W) (h4 : r ∉ hostOps1_4_W) (h5 : r ∉ hostOps1_5_W) :
    StableHlo.after (hostOps1_2 ++ (hostOps1_3 ++ (hostOps1_4 ++ hostOps1_5))) V (Proc.devRef .tc r) = V (Proc.devRef .tc r) := by
  rw [StableHlo.after_append, StableHlo.after_append, StableHlo.after_append,
    StableHlo.after_of_writes_sub (r := r) hostOps1_5 _ hostOps1_5_writes h5,
    StableHlo.after_of_writes_sub (r := r) hostOps1_4 _ hostOps1_4_writes h4,
    StableHlo.after_of_writes_sub (r := r) hostOps1_3 _ hostOps1_3_writes h3,
    StableHlo.after_of_writes_sub (r := r) hostOps1_2 _ hostOps1_2_writes h2]

theorem tail_eq (a0 : Vec Ideal S8x4096x8192 .fp8e4m3) (a1 : Vec Ideal S8x32x32 .f32) (a2 : Vec Ideal S8x4096x2048 .fp8e4m3)
    (a3 : Vec Ideal S8x32x8 .f32) (a4 : Vec Ideal S8x8x256x4096 .fp8e4m3) (a5 : Vec Ideal S8x32x8 .f32)
    (hq : ∀ i, V (Proc.devRef .tc main_v0_0) i = (a0 i : EReal)) (hk : ∀ i, V (Proc.devRef .tc main_v0_1) i = (a2 i : EReal))
    (hv : ∀ i, V (Proc.devRef .tc main_v0_2) i = (a4 i : EReal)) (h1 : V (Proc.devRef .tc main_arg1) = a1)
    (h3 : V (Proc.devRef .tc main_arg3) = a3) (h5 : V (Proc.devRef .tc main_arg5) = a5)
    (hA : ∀ b n g i, (ptAt a0 a1 a2 a3 a4 a5 b n i).ra g = 0 ∨ (ptAt a0 a1 a2 a3 a4 a5 b n i).ra g = 1) :
    StableHlo.after [hostOps1, hostOps1_1, hostOps1_2, hostOps1_3, hostOps1_4, hostOps1_5, hostOps1_6, hostOps1_7, hostOps1_8].flatten V
      (Proc.devRef .tc main_v86) = refArr a0 a1 a2 a3 a4 a5 := by
  have hsplit : ([hostOps1, hostOps1_1, hostOps1_2, hostOps1_3, hostOps1_4, hostOps1_5, hostOps1_6, hostOps1_7, hostOps1_8].flatten : List (HloOp τ sig (Elt Ideal)))
      = (hostOps1 ++ hostOps1_1) ++ ((hostOps1_2 ++ (hostOps1_3 ++ (hostOps1_4 ++ hostOps1_5))) ++ (hostOps1_6 ++ (hostOps1_7 ++ hostOps1_8))) := by
    simp only [List.flatten_cons, List.flatten_nil, List.append_nil, List.append_assoc]
  rw [hsplit, StableHlo.after_append (hostOps1 ++ hostOps1_1),
    StableHlo.after_append (hostOps1_2 ++ (hostOps1_3 ++ (hostOps1_4 ++ hostOps1_5)))]
  have hX : ∀ b n g q k, StableHlo.after (hostOps1 ++ hostOps1_1) V (Proc.devRef .tc main_v25) (ix5 b n g q k)
      = (ptOfPos a0 a1 a2 a3 a4 a5 b n q).rs k.val (colOf g q) := fun b n g q k => by
    rw [score_at, h1, h3]
    exact score_eq a0 a1 a2 a3 a4 a5 _ _ hq hk b n g q k
  have e2 : StableHlo.after (hostOps1 ++ hostOps1_1) V (Proc.devRef .tc main_v0_2) = V (Proc.devRef .tc main_v0_2) :=
    keep1 V main_v0_2 (by decide +kernel) (by decide +kernel)
  have e5 : StableHlo.after (hostOps1 ++ hostOps1_1) V (Proc.devRef .tc main_arg5) = V (Proc.devRef .tc main_arg5) :=
    keep1 V main_arg5 (by decide +kernel) (by decide +kernel)
  generalize StableHlo.after (hostOps1 ++ hostOps1_1) V = V1 at hX e2 e5
  have f2 : StableHlo.after (hostOps1_2 ++ (hostOps1_3 ++ (hostOps1_4 ++ hostOps1_5))) V1 (Proc.devRef .tc main_v0_2) = V (Proc.devRef .tc main_v0_2) :=
    (keep2 V1 main_v0_2 (by decide +kernel) (by decide +kernel) (by decide +kernel) (by decide +kernel)).trans e2
  have f5 : StableHlo.after (hostOps1_2 ++ (hostOps1_3 ++ (hostOps1_4 ++ hostOps1_5))) V1 (Proc.devRef .tc main_arg5) = a5 :=
    (keep2 V1 main_arg5 (by decide +kernel) (by decide +kernel) (by decide +kernel) (by decide +kernel)).trans (e5.trans h5)
  have hW : ∀ b n g q k, StableHlo.after (hostOps1_2 ++ (hostOps1_3 ++ (hostOps1_4 ++ hostOps1_5))) V1 (Proc.devRef .tc main_v30) (ix5 b n g q k)
      = (ptOfPos a0 a1 a2 a3 a4 a5 b n q).rp k.val (colOf g q) := fun b n g q k =>
    (wt_at V1 b n g q k).trans (wt_eq a0 a1 a2 a3 a4 a5 _ hX b n g q k)
  have hL : ∀ b n g q, @Eq EReal (StableHlo.after (hostOps1_2 ++ (hostOps1_3 ++ (hostOps1_4 ++ hostOps1_5))) V1 (Proc.devRef .tc main_v31) (ix4 b n g q))
      (∑ k : Fin 4096, (ptOfPos a0 a1 a2 a3 a4 a5 b n q).rp k.val (colOf g q)) := fun b n g q =>
    (sum_at V1 b n g q).trans (show @Eq EReal _ _ from Finset.sum_congr rfl fun k _ => wt_eq a0 a1 a2 a3 a4 a5 _ hX b n g q k)
  have hE : ∀ b n g i, StableHlo.after (hostOps1_2 ++ (hostOps1_3 ++ (hostOps1_4 ++ hostOps1_5))) V1 (Proc.devRef .tc main_v55) (ix4 b n g i)
      = ((expo ((ptAt a0 a1 a2 a3 a4 a5 b n i).ra g) : ℝ) : EReal) := fun b n g i => by
    have ea := amax_eq a0 a1 a2 a3 a4 a5 _ hX b n g i
    rw [expo_at V1 b n g i (by rw [ea]; exact hA b n g i), ea]
  generalize StableHlo.after (hostOps1_2 ++ (hostOps1_3 ++ (hostOps1_4 ++ hostOps1_5))) V1 = V2 at f2 f5 hW hL hE
  funext y
  refine (congrArg _ (show y = ix3 (y 0) (y 1) (y 2) from funext fun a => by match a with | ⟨0, _⟩ => rfl | ⟨1, _⟩ => rfl | ⟨2, _⟩ => rfl)).trans ?_
  refine (out_at V2 (y 0) (y 1) (y 2)).trans ?_
  rw [f2, f5]
  exact qout_eq a0 a1 a2 a3 a4 a5 _ _ _ _ hv hW hL hE (y 0) (y 1) (y 2)

end Stages

variable (m : (ℓ : Loc nD τ sig) → Buf (Elt Ideal) ℓ) (ρ : Dev nD → PrngReg)

/-- An argument array as the run finds it. -/
abbrev arg (c : Dev nD) (b : Ref sig .tc) : Buf (Elt Ideal) ((c.tc : Thread nD τ).loc b) := m ((c.tc : Thread nD τ).loc b)

/-- The largest weight of each head and query block is 0 or 1. -/
def Bin (c : Dev nD) : Prop := ∀ b n g i,
  (ptAt (arg m c main_arg0) (arg m c main_arg1) (arg m c main_arg2) (arg m c main_arg3) (arg m c main_arg4) (arg m c main_arg5) b n i).ra g = 0
  ∨ (ptAt (arg m c main_arg0) (arg m c main_arg1) (arg m c main_arg2) (arg m c main_arg3) (arg m c main_arg4) (arg m c main_arg5) b n i).ra g = 1

theorem result (c : Dev nD) (hA : Bin m c) :
    Pipeline.afterTail₀ cfgs (dats m) 0 (V0 m) [hostOps1, hostOps1_1, hostOps1_2, hostOps1_3, hostOps1_4, hostOps1_5, hostOps1_6, hostOps1_7, hostOps1_8] c main_v86
      = refArr (arg m c main_arg0) (arg m c main_arg1) (arg m c main_arg2) (arg m c main_arg3) (arg m c main_arg4) (arg m c main_arg5) := by
  have hinj : Function.Injective (Pipeline.arrRef spec0) := by decide
  unfold Pipeline.afterTail₀
  refine tail_eq _ _ _ _ _ _ _ (fun i => ?_) (fun i => ?_) (fun i => ?_) ?_ ?_ ?_ hA
  · exact (congrFun (Pipeline.withArrays_arr spec0 hinj c (V0 m c) (fun w => (dats m 0 c).arrAt w cfg0.N) 3) i).trans (wide_q m c i)
  · exact (congrFun (Pipeline.withArrays_arr spec0 hinj c (V0 m c) (fun w => (dats m 0 c).arrAt w cfg0.N) 4) i).trans (wide_k m c i)
  · exact (congrFun (Pipeline.withArrays_arr spec0 hinj c (V0 m c) (fun w => (dats m 0 c).arrAt w cfg0.N) 5) i).trans (wide_v m c i)
  · exact (Pipeline.withArrays_of_ne _ c (V0 m c) _ main_arg1 (by exact (by decide : ∀ w, Pipeline.arrRef spec0 w ≠ main_arg1))).trans (V_main_arg1 m c)
  · exact (Pipeline.withArrays_of_ne _ c (V0 m c) _ main_arg3 (by exact (by decide : ∀ w, Pipeline.arrRef spec0 w ≠ main_arg3))).trans (V_main_arg3 m c)
  · exact (Pipeline.withArrays_of_ne _ c (V0 m c) _ main_arg5 (by exact (by decide : ∀ w, Pipeline.arrRef spec0 w ≠ main_arg5))).trans (V_main_arg5 m c)

/-- The run, read: the result at the reference's form of the attention of the arguments, which end unchanged. -/
theorem run (hA : ∀ c, Bin m c) : θ_run defs (onTc (τ := τ) (main (F := Ideal))) ⟨m, fun _ => 0, ρ⟩ (fun r => ∀ c : Dev nD,
      r.2.mem ((c.tc : Thread nD τ).loc main_v86) = refArr (arg m c main_arg0) (arg m c main_arg1) (arg m c main_arg2) (arg m c main_arg3) (arg m c main_arg4) (arg m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run_and ((θ_run defs _ _).mono (fun _ h c =>
      ((h c).2 main_v86 (Pipeline.mem_restRefs_of main_v86 (by decide) (by decide))).trans (result m c (hA c))) (run_main m ρ))
    (unchanged m ρ)).mono fun _ h c => ⟨h.1 c, h.2 c⟩

end Cert.RefIdeal.Value
end
-- ==== Proof.Value.Algebra.lean ====
/- The kernel and the reference at the reals: equal results wherever the scales of q and k are positive. -/
module

public import proofs.«01_k».proof.Defs
public import proofs.«01_k».proof.Proof.Value.KValue
public import proofs.«01_k».proof.Proof.Value.RValue
public import Idealize.ShloMosaic.Lib.ReduceAll

@[expose] public section
set_option maxRecDepth 16384
noncomputable section
namespace Cert.Pre_scales_positive.Hand
open Idealize.ShloMosaic

theorem bcast_S_S8x32x32 : S_.BroadcastsInDim S8x32x32 (![] : Fin 0 → Fin S8x32x32.rank) := by decide
theorem reducesTo_S8x32x32_S_d0_1_2 : S8x32x32.ReducesTo [0, 1, 2] S_ := by decide
theorem h_S_ : 0 < S_.numel := by decide
theorem bcast_S_S8x32x8 : S_.BroadcastsInDim S8x32x8 (![] : Fin 0 → Fin S8x32x8.rank) := by decide
theorem reducesTo_S8x32x8_S_d0_1_2 : S8x32x8.ReducesTo [0, 1, 2] S_ := by decide

/-- The side conditions of the precondition. -/
instance facts : Cert.Pre_scales_positive.Facts where
  bcast_S_S8x32x32 := bcast_S_S8x32x32
  reducesTo_S8x32x32_S_d0_1_2 := reducesTo_S8x32x32_S_d0_1_2
  h_S_ := h_S_
  bcast_S_S8x32x8 := bcast_S_S8x32x8
  reducesTo_S8x32x8_S_d0_1_2 := reducesTo_S8x32x8_S_d0_1_2

instance : Subsingleton S_.Idx := ⟨fun x y => funext fun a => a.elim0⟩

/-- A comparison with zero that holds. -/
theorem pos_of_cmp (x : EReal) (h : Ideal.cmp .ogt x (Ideal.ofBits .f32 0x00000000#32) = 1#1) : 0 < x := by
  rw [Ideal.ofBits_zero_f32] at h
  unfold Ideal.cmp at h
  by_contra hx
  simp [hx] at h

/-- Under the precondition the entries of both scale arrays are positive. -/
theorem pos (a0 : FVec Ideal S8x4096x8192 .fp8e4m3) (a1 : FVec Ideal S8x32x32 .f32) (a2 : FVec Ideal S8x4096x2048 .fp8e4m3)
    (a3 : FVec Ideal S8x32x8 .f32) (a4 : FVec Ideal S8x8x256x4096 .fp8e4m3) (a5 : FVec Ideal S8x32x8 .f32)
    (h : fn (F := Ideal) a0 a1 a2 a3 a4 a5 = fun _ => 1#1) :
    (∀ i, 0 < (a1 i : EReal)) ∧ ∀ i, 0 < (a3 i : EReal) := by
  have h' := IntOp.andi_eq_one.1 (congrFun h (fun a => a.elim0))
  exact ⟨fun i => pos_of_cmp _ (Host.reduce_andi_all _ _ _ _ _ h'.1 i), fun i => pos_of_cmp _ (Host.reduce_andi_all _ _ _ _ _ h'.2 i)⟩

end Cert.Pre_scales_positive.Hand

namespace Cert.Value.Algebra
open Idealize.ShloMosaic Idealize.ShloMosaic.TcCoe
open Cert.AttnIdeal.Value (ptAt atPlace outArr)
open Cert.RefIdeal.Value (refArr)

section
variable {a0 : Vec Ideal AttnIdeal.S8x4096x8192 .fp8e4m3} {a1 : Vec Ideal AttnIdeal.S8x32x32 .f32}
  {a2 : Vec Ideal AttnIdeal.S8x4096x2048 .fp8e4m3} {a3 : Vec Ideal AttnIdeal.S8x32x8 .f32}
  {a4 : Vec Ideal AttnIdeal.S8x8x256x4096 .fp8e4m3} {a5 : Vec Ideal AttnIdeal.S8x32x8 .f32}

/-- One sixteenth, the root of the head dimension inverted, is positive. -/
theorem root_pos : 0 < Ideal.ofBits .f32 0x3D800000#32 := by
  rw [show Ideal.ofBits .f32 0x3D800000#32 = ((1 / 16 : ℝ) : EReal) by simp [Ideal.ofBits, Ideal.ieee, -EReal.coe_mul]; norm_num]
  exact_mod_cast (by norm_num : (0 : ℝ) < 1 / 16)

variable (h1 : ∀ i, 0 < (a1 i : EReal)) (h3 : ∀ i, 0 < (a3 i : EReal))
include h1 h3

theorem point_pos (b n : Fin 8) (i : Fin 32) :
    (∀ j, 0 < (ptAt a0 a1 a2 a3 a4 a5 b n i).ks j) ∧ ∀ g, 0 < (ptAt a0 a1 a2 a3 a4 a5 b n i).qr g :=
  ⟨fun _ => h3 _, fun _ => EReal.mul_pos (h1 _) root_pos⟩

/-- The kernel's result array is the reference's. -/
theorem out_eq : outArr a0 a1 a2 a3 a4 a5 = refArr a0 a1 a2 a3 a4 a5 :=
  funext fun y => (ptAt a0 a1 a2 a3 a4 a5 (y 0) _ _).kout_eq (point_pos h1 h3 _ _ _).1 (point_pos h1 h3 _ _ _).2 (Fin.isLt _) _ _

theorem bin (b n : Fin 8) (g : Fin 4) (i : Fin 32) :
    (ptAt a0 a1 a2 a3 a4 a5 b n i).ra g = 0 ∨ (ptAt a0 a1 a2 a3 a4 a5 b n i).ra g = 1 := by
  obtain ⟨hk, hq⟩ := point_pos (a0 := a0) (a2 := a2) (a4 := a4) (a5 := a5) h1 h3 b n i
  rw [← (ptAt a0 a1 a2 a3 a4 a5 b n i).ka_eq hk hq i.isLt]
  exact (ptAt a0 a1 a2 a3 a4 a5 b n i).ka_zero_or_one hk hq i.isLt g
end

/-- Where the scales of q and k are positive, both programs run to the same result. -/
theorem algebraic : Cert.algebraic_AttnIdeal_RefIdeal_pre_scales_positive := by
  intro m g m' g' hpre hargs
  have hpos (c : Dev AttnIdeal.nD) := Cert.Pre_scales_positive.Hand.pos _ _ _ _ _ _ (hpre c)
  refine ⟨fun c => outArr (AttnIdeal.Value.arg m c AttnIdeal.main_arg0) (AttnIdeal.Value.arg m c AttnIdeal.main_arg1)
    (AttnIdeal.Value.arg m c AttnIdeal.main_arg2) (AttnIdeal.Value.arg m c AttnIdeal.main_arg3)
    (AttnIdeal.Value.arg m c AttnIdeal.main_arg4) (AttnIdeal.Value.arg m c AttnIdeal.main_arg5), ?_, ?_⟩
  · refine AttnIdeal.Value.run m g fun c t => ?_
    rw [AttnIdeal.Value.pt_eq]
    exact point_pos (hpos c).1 (hpos c).2 _ _ _
  · refine (θ_run _ _ _).mono (fun r h c => ⟨?_, (h c).2⟩) (RefIdeal.Value.run m' g' fun c => ?_)
    · obtain ⟨e0, e1, e2, e3, e4, e5⟩ := hargs c
      refine (h c).1.trans ?_
      refine Eq.trans ?_ (out_eq (hpos c).1 (hpos c).2).symm
      unfold RefIdeal.Value.arg AttnIdeal.Value.arg
      rw [e0, e1, e2, e3, e4, e5]
    · obtain ⟨e0, e1, e2, e3, e4, e5⟩ := hargs c
      intro b n gg i
      unfold RefIdeal.Value.arg
      rw [e0, e1, e2, e3, e4, e5]
      exact bin (hpos c).1 (hpos c).2 b n gg i

end Cert.Value.Algebra
end
-- ==== Proof.lean ====
module

public import proofs.«01_k».proof.Defs
public import proofs.«01_k».proof.Proof.Gen.Attn
public import proofs.«01_k».proof.Proof.Gen.AttnIdeal
public import proofs.«01_k».proof.Proof.Gen.RefIdeal
public import proofs.«01_k».proof.Proof.Gen.RefIdeal.Frame
public import proofs.«01_k».proof.Proof.Attn.Frame
public import proofs.«01_k».proof.Proof.AttnIdeal.Frame
public import proofs.«01_k».proof.Proof.Value.Algebra
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.RefIdeal.Gen.facts, Cert.Pre_scales_positive.Hand.facts,
    fun m ρ _ => Cert.Attn.Hand.frame m ρ, fun m ρ _ => Cert.AttnIdeal.Hand.frame m ρ,
    fun m ρ _ => Cert.AttnIdeal.Hand.frame m ρ, fun m ρ _ => Cert.RefIdeal.Gen.frame m ρ,
    fun m ρ _ => Cert.RefIdeal.Gen.frame m ρ,
    IdealRules.named_const.statement Cert.AttnIdeal.κ "log2e" .f32 0x3FB8AA3B#32 (((Real.log 2)⁻¹ : ℝ) : EReal) rfl,
    Cert.Value.Algebra.algebraic⟩

end Cert.Proof

end
